-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1x4x512x512 : Shape := ⟨5, ![2, 1, 4, 512, 512]⟩
abbrev S_ : Shape := ⟨0, ![]⟩

class Facts : Prop where
  bcast_S_S2x1x4x512x512 : S_.BroadcastsInDim S2x1x4x512x512 (![] : Fin 0 → Fin S2x1x4x512x512.rank)

variable [Facts]

def fn {F : FTy → Type} [FloatOps F] (main_arg0 : FVec F S2x1x4x512x512 .f32) : IVec S2x1x4x512x512 1 :=
  let main_v0 : FVec F S2x1x4x512x512 .f32 := Host.absf main_arg0
  let main_cst : FVec F S_ .f32 := constant S_ .f32 0x7F800000#32
  let main_v1 : FVec F S2x1x4x512x512 .f32 := broadcastInDim S2x1x4x512x512 ![] bcast_S_S2x1x4x512x512 main_cst
  let main_v2 : IVec S2x1x4x512x512 1 := cmpf .olt main_v0 main_v1
  main_v2
-- ==== Kernel.lean ====
abbrev S2x1x4x512x512 : Shape := ⟨5, ![2, 1, 4, 512, 512]⟩
abbrev S2x4x512x512 : Shape := ⟨4, ![2, 4, 512, 512]⟩
abbrev S2x3x4x512x512 : Shape := ⟨5, ![2, 3, 4, 512, 512]⟩
abbrev S2x4x64x512 : Shape := ⟨4, ![2, 4, 64, 512]⟩
abbrev S2x4x8x512 : Shape := ⟨4, ![2, 4, 8, 512]⟩
abbrev S2x3x4x64x512 : Shape := ⟨5, ![2, 3, 4, 64, 512]⟩
abbrev S2x4x1x512 : Shape := ⟨4, ![2, 4, 1, 512]⟩
abbrev S2x4x63x512 : Shape := ⟨4, ![2, 4, 63, 512]⟩
abbrev S2x4x64x511 : Shape := ⟨4, ![2, 4, 64, 511]⟩
abbrev S2x4x64x1 : Shape := ⟨4, ![2, 4, 64, 1]⟩
abbrev S2x4x1x1 : Shape := ⟨4, ![2, 4, 1, 1]⟩
abbrev S2x4x1x511 : Shape := ⟨4, ![2, 4, 1, 511]⟩
abbrev S2x64x512 : Shape := ⟨3, ![2, 64, 512]⟩
abbrev S2x1x64x512 : Shape := ⟨4, ![2, 1, 64, 512]⟩
abbrev S2x1x1x64x512 : Shape := ⟨5, ![2, 1, 1, 64, 512]⟩

abbrev nBuf : Space → Nat
  | .hbm => 4
  | .vmem => 10
  | .smem => 0
  | _ => 0

abbrev bufTy : (tb : Table) → Fin (tcTables nBuf tb) → BufTy
  | .hbm, ⟨0, _⟩ => ⟨S2x1x4x512x512, .f32⟩
  | .hbm, ⟨1, _⟩ => ⟨S2x4x512x512, .f32⟩
  | .hbm, ⟨2, _⟩ => ⟨S2x3x4x512x512, .f32⟩
  | .hbm, ⟨3, _⟩ => ⟨S2x4x512x512, .f32⟩
  | .local _ .vmem, ⟨0, _⟩ => ⟨S2x4x64x512, .f32⟩
  | .local _ .vmem, ⟨1, _⟩ => ⟨S2x4x64x512, .f32⟩
  | .local _ .vmem, ⟨2, _⟩ => ⟨S2x4x8x512, .f32⟩
  | .local _ .vmem, ⟨3, _⟩ => ⟨S2x4x8x512, .f32⟩
  | .local _ .vmem, ⟨4, _⟩ => ⟨S2x4x8x512, .f32⟩
  | .local _ .vmem, ⟨5, _⟩ => ⟨S2x4x8x512, .f32⟩
  | .local _ .vmem, ⟨6, _⟩ => ⟨S2x3x4x64x512, .f32⟩
  | .local _ .vmem, ⟨7, _⟩ => ⟨S2x3x4x64x512, .f32⟩
  | .local _ .vmem, ⟨8, _⟩ => ⟨S2x4x64x512, .f32⟩
  | .local _ .vmem, ⟨9, _⟩ => ⟨S2x4x64x512, .f32⟩
  | _, _ => ⟨S2x1x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) (c0_i32_3 : BitVec 32) (c7_i32 : BitVec 32) : Fin 4 → Nat :=
  let c0_4 : Index := 0#32
  let c0_5 : Index := 0#32
  let arg0 : BitVec 32 := BitVec.ofNat 32 (i 0).val
  let v3 : BitVec 1 := Scalar.cmpi .eq arg0 c0_i32
  let v4 : BitVec 32 := Scalar.select v3 c0_i32_3 c7_i32
  let v5 : Index := Scalar.indexCast v4
  let c0_6 : Index := 0#32
  ![0, 0, v5.toNat, 0]
def k0_off1_at (r : Fin 2) : BitVec 32 × BitVec 32 × BitVec 32 :=
  if r.val < 1 then
    (0#32, 0#32, 7#32)
  else
    (7#32, 7#32, 0#32)
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, arg0.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x1x4x512x512 : Shape := ⟨5, ![2, 1, 4, 512, 512]⟩
abbrev S2x1x1x512x512 : Shape := ⟨5, ![2, 1, 1, 512, 512]⟩
abbrev S2x1x6x512x512 : Shape := ⟨5, ![2, 1, 6, 512, 512]⟩
abbrev S2x1x6x1x512 : Shape := ⟨5, ![2, 1, 6, 1, 512]⟩
abbrev S2x1x6x514x512 : Shape := ⟨5, ![2, 1, 6, 514, 512]⟩
abbrev S2x1x6x514x1 : Shape := ⟨5, ![2, 1, 6, 514, 1]⟩
abbrev S2x1x6x514x514 : Shape := ⟨5, ![2, 1, 6, 514, 514]⟩
abbrev S_ : Shape := ⟨0, ![]⟩
abbrev S2x1x1x4x512x512 : Shape := ⟨6, ![2, 1, 1, 4, 512, 512]⟩
abbrev S2x1x3x4x512x512 : Shape := ⟨6, ![2, 1, 3, 4, 512, 512]⟩
abbrev S4 : Shape := ⟨1, ![4]⟩
abbrev S512 : Shape := ⟨1, ![512]⟩
abbrev S4x512x512 : Shape := ⟨3, ![4, 512, 512]⟩
abbrev S1x4x512x512 : Shape := ⟨4, ![1, 4, 512, 512]⟩
abbrev S3x4x512x512 : Shape := ⟨4, ![3, 4, 512, 512]⟩
abbrev S1x1x3x4x512x512 : Shape := ⟨6, ![1, 1, 3, 4, 512, 512]⟩
abbrev S2x3x4x512x512 : Shape := ⟨5, ![2, 3, 4, 512, 512]⟩
abbrev S2x4x512x512 : Shape := ⟨4, ![2, 4, 512, 512]⟩

abbrev nBuf : Space → Nat
  | .hbm => 229
  | .vmem => 0
  | .smem => 0
  | _ => 0

abbrev hbmTy0_0 (i : Nat) : BufTy := match i % 128 with
  | 0 => ⟨S2x1x4x512x512, .f32⟩
  | 1 => ⟨S2x1x1x512x512, .f32⟩
  | 2 => ⟨S2x1x1x512x512, .f32⟩
  | 3 => ⟨S2x1x6x512x512, .f32⟩
  | 4 => ⟨S2x1x6x1x512, .f32⟩
  | 5 => ⟨S2x1x6x1x512, .f32⟩
  | 6 => ⟨S2x1x6x514x512, .f32⟩
  | 7 => ⟨S2x1x6x514x1, .f32⟩
  | 8 => ⟨S2x1x6x514x1, .f32⟩
  | 9 => ⟨S2x1x6x514x514, .f32⟩
  | 10 => ⟨S2x1x4x512x512, .f32⟩
  | 11 => ⟨S2x1x4x512x512, .f32⟩
  | 12 => ⟨S2x1x4x512x512, .f32⟩
  | 13 => ⟨S_, .f32⟩
  | 14 => ⟨S2x1x4x512x512, .f32⟩
  | 15 => ⟨S2x1x4x512x512, .f32⟩
  | 16 => ⟨S2x1x4x512x512, .f32⟩
  | 17 => ⟨S2x1x4x512x512, .f32⟩
  | 18 => ⟨S2x1x4x512x512, .f32⟩
  | 19 => ⟨S_, .f32⟩
  | 20 => ⟨S2x1x4x512x512, .f32⟩
  | 21 => ⟨S2x1x4x512x512, .f32⟩
  | 22 => ⟨S2x1x4x512x512, .f32⟩
  | 23 => ⟨S2x1x4x512x512, .f32⟩
  | 24 => ⟨S2x1x4x512x512, .f32⟩
  | 25 => ⟨S_, .f32⟩
  | 26 => ⟨S2x1x4x512x512, .f32⟩
  | 27 => ⟨S2x1x4x512x512, .f32⟩
  | 28 => ⟨S2x1x1x512x512, .f32⟩
  | 29 => ⟨S2x1x1x512x512, .f32⟩
  | 30 => ⟨S2x1x6x512x512, .f32⟩
  | 31 => ⟨S2x1x6x1x512, .f32⟩
  | 32 => ⟨S2x1x6x1x512, .f32⟩
  | 33 => ⟨S2x1x6x514x512, .f32⟩
  | 34 => ⟨S2x1x6x514x1, .f32⟩
  | 35 => ⟨S2x1x6x514x1, .f32⟩
  | 36 => ⟨S2x1x6x514x514, .f32⟩
  | 37 => ⟨S2x1x4x512x512, .f32⟩
  | 38 => ⟨S2x1x4x512x512, .f32⟩
  | 39 => ⟨S_, .f32⟩
  | 40 => ⟨S2x1x4x512x512, .f32⟩
  | 41 => ⟨S2x1x4x512x512, .f32⟩
  | 42 => ⟨S2x1x4x512x512, .f32⟩
  | 43 => ⟨S2x1x4x512x512, .f32⟩
  | 44 => ⟨S2x1x4x512x512, .f32⟩
  | 45 => ⟨S2x1x4x512x512, .f32⟩
  | 46 => ⟨S2x1x4x512x512, .f32⟩
  | 47 => ⟨S_, .f32⟩
  | 48 => ⟨S2x1x4x512x512, .f32⟩
  | 49 => ⟨S2x1x4x512x512, .f32⟩
  | 50 => ⟨S2x1x4x512x512, .f32⟩
  | 51 => ⟨S2x1x4x512x512, .f32⟩
  | 52 => ⟨S2x1x4x512x512, .f32⟩
  | 53 => ⟨S2x1x4x512x512, .f32⟩
  | 54 => ⟨S2x1x4x512x512, .f32⟩
  | 55 => ⟨S_, .f32⟩
  | 56 => ⟨S2x1x4x512x512, .f32⟩
  | 57 => ⟨S2x1x4x512x512, .f32⟩
  | 58 => ⟨S2x1x4x512x512, .f32⟩
  | 59 => ⟨S2x1x4x512x512, .f32⟩
  | 60 => ⟨S2x1x4x512x512, .f32⟩
  | 61 => ⟨S2x1x4x512x512, .f32⟩
  | 62 => ⟨S2x1x4x512x512, .f32⟩
  | 63 => ⟨S2x1x4x512x512, .f32⟩
  | 64 => ⟨S2x1x4x512x512, .f32⟩
  | 65 => ⟨S2x1x4x512x512, .f32⟩
  | 66 => ⟨S2x1x4x512x512, .f32⟩
  | 67 => ⟨S2x1x4x512x512, .f32⟩
  | 68 => ⟨S2x1x4x512x512, .f32⟩
  | 69 => ⟨S2x1x4x512x512, .f32⟩
  | 70 => ⟨S2x1x4x512x512, .f32⟩
  | 71 => ⟨S2x1x4x512x512, .f32⟩
  | 72 => ⟨S2x1x4x512x512, .f32⟩
  | 73 => ⟨S2x1x4x512x512, .f32⟩
  | 74 => ⟨S2x1x4x512x512, .f32⟩
  | 75 => ⟨S2x1x4x512x512, .f32⟩
  | 76 => ⟨S2x1x4x512x512, .f32⟩
  | 77 => ⟨S2x1x4x512x512, .f32⟩
  | 78 => ⟨S2x1x4x512x512, .f32⟩
  | 79 => ⟨S2x1x4x512x512, .f32⟩
  | 80 => ⟨S2x1x4x512x512, .f32⟩
  | 81 => ⟨S2x1x4x512x512, .f32⟩
  | 82 => ⟨S2x1x4x512x512, .f32⟩
  | 83 => ⟨S2x1x4x512x512, .f32⟩
  | 84 => ⟨S_, .f32⟩
  | 85 => ⟨S2x1x4x512x512, .f32⟩
  | 86 => ⟨S2x1x4x512x512, .f32⟩
  | 87 => ⟨S_, .f32⟩
  | 88 => ⟨S2x1x4x512x512, .f32⟩
  | 89 => ⟨S2x1x4x512x512, .f32⟩
  | 90 => ⟨S_, .f32⟩
  | 91 => ⟨S2x1x4x512x512, .f32⟩
  | 92 => ⟨S2x1x4x512x512, .f32⟩
  | 93 => ⟨S2x1x4x512x512, .f32⟩
  | 94 => ⟨S2x1x4x512x512, .f32⟩
  | 95 => ⟨S2x1x4x512x512, .f32⟩
  | 96 => ⟨S2x1x4x512x512, .f32⟩
  | 97 => ⟨S2x1x4x512x512, .f32⟩
  | 98 => ⟨S2x1x4x512x512, .f32⟩
  | 99 => ⟨S2x1x4x512x512, .f32⟩
  | 100 => ⟨S2x1x4x512x512, .f32⟩
  | 101 => ⟨S2x1x4x512x512, .f32⟩
  | 102 => ⟨S2x1x4x512x512, .f32⟩
  | 103 => ⟨S2x1x4x512x512, .f32⟩
  | 104 => ⟨S2x1x4x512x512, .f32⟩
  | 105 => ⟨S2x1x4x512x512, .f32⟩
  | 106 => ⟨S2x1x4x512x512, .f32⟩
  | 107 => ⟨S2x1x4x512x512, .f32⟩
  | 108 => ⟨S_, .f32⟩
  | 109 => ⟨S2x1x4x512x512, .f32⟩
  | 110 => ⟨S2x1x4x512x512, .i1⟩
  | 111 => ⟨S2x1x4x512x512, .f32⟩
  | 112 => ⟨S_, .f32⟩
  | 113 => ⟨S2x1x4x512x512, .f32⟩
  | 114 => ⟨S2x1x4x512x512, .i1⟩
  | 115 => ⟨S2x1x4x512x512, .i1⟩
  | 116 => ⟨S_, .f32⟩
  | 117 => ⟨S_, .f32⟩
  | 118 => ⟨S2x1x4x512x512, .f32⟩
  | 119 => ⟨S2x1x4x512x512, .f32⟩
  | 120 => ⟨S2x1x4x512x512, .f32⟩
  | 121 => ⟨S2x1x4x512x512, .f32⟩
  | 122 => ⟨S2x1x4x512x512, .f32⟩
  | 123 => ⟨S2x1x4x512x512, .f32⟩
  | 124 => ⟨S2x1x4x512x512, .f32⟩
  | 125 => ⟨S2x1x4x512x512, .f32⟩
  | 126 => ⟨S2x1x4x512x512, .f32⟩
  | 127 => ⟨S2x1x4x512x512, .f32⟩
  | _ => ⟨S2x1x4x512x512, .f32⟩

abbrev hbmTy0_1 (i : Nat) : BufTy := match i % 128 with
  | 0 => ⟨S2x1x4x512x512, .f32⟩
  | 1 => ⟨S2x1x4x512x512, .f32⟩
  | 2 => ⟨S2x1x4x512x512, .f32⟩
  | 3 => ⟨S2x1x4x512x512, .f32⟩
  | 4 => ⟨S2x1x4x512x512, .f32⟩
  | 5 => ⟨S2x1x4x512x512, .f32⟩
  | 6 => ⟨S2x1x4x512x512, .f32⟩
  | 7 => ⟨S2x1x4x512x512, .f32⟩
  | 8 => ⟨S2x1x4x512x512, .f32⟩
  | 9 => ⟨S2x1x4x512x512, .f32⟩
  | 10 => ⟨S2x1x4x512x512, .f32⟩
  | 11 => ⟨S2x1x4x512x512, .f32⟩
  | 12 => ⟨S2x1x4x512x512, .f32⟩
  | 13 => ⟨S2x1x4x512x512, .f32⟩
  | 14 => ⟨S2x1x4x512x512, .f32⟩
  | 15 => ⟨S2x1x4x512x512, .f32⟩
  | 16 => ⟨S2x1x4x512x512, .f32⟩
  | 17 => ⟨S2x1x4x512x512, .f32⟩
  | 18 => ⟨S2x1x4x512x512, .f32⟩
  | 19 => ⟨S2x1x4x512x512, .f32⟩
  | 20 => ⟨S2x1x4x512x512, .f32⟩
  | 21 => ⟨S2x1x4x512x512, .f32⟩
  | 22 => ⟨S2x1x4x512x512, .f32⟩
  | 23 => ⟨S2x1x4x512x512, .f32⟩
  | 24 => ⟨S2x1x4x512x512, .f32⟩
  | 25 => ⟨S2x1x4x512x512, .f32⟩
  | 26 => ⟨S2x1x4x512x512, .f32⟩
  | 27 => ⟨S2x1x4x512x512, .f32⟩
  | 28 => ⟨S_, .f32⟩
  | 29 => ⟨S_, .f32⟩
  | 30 => ⟨S2x1x4x512x512, .f32⟩
  | 31 => ⟨S2x1x4x512x512, .i1⟩
  | 32 => ⟨S2x1x4x512x512, .i1⟩
  | 33 => ⟨S_, .f32⟩
  | 34 => ⟨S_, .f32⟩
  | 35 => ⟨S2x1x4x512x512, .f32⟩
  | 36 => ⟨S2x1x4x512x512, .f32⟩
  | 37 => ⟨S2x1x4x512x512, .f32⟩
  | 38 => ⟨S_, .f32⟩
  | 39 => ⟨S_, .f32⟩
  | 40 => ⟨S2x1x4x512x512, .f32⟩
  | 41 => ⟨S2x1x4x512x512, .f32⟩
  | 42 => ⟨S2x1x4x512x512, .f32⟩
  | 43 => ⟨S_, .f32⟩
  | 44 => ⟨S_, .f32⟩
  | 45 => ⟨S2x1x4x512x512, .f32⟩
  | 46 => ⟨S2x1x4x512x512, .f32⟩
  | 47 => ⟨S2x1x4x512x512, .f32⟩
  | 48 => ⟨S2x1x4x512x512, .f32⟩
  | 49 => ⟨S2x1x4x512x512, .f32⟩
  | 50 => ⟨S2x1x4x512x512, .f32⟩
  | 51 => ⟨S2x1x4x512x512, .f32⟩
  | 52 => ⟨S2x1x4x512x512, .f32⟩
  | 53 => ⟨S_, .f32⟩
  | 54 => ⟨S2x1x4x512x512, .f32⟩
  | 55 => ⟨S2x1x4x512x512, .i1⟩
  | 56 => ⟨S_, .f32⟩
  | 57 => ⟨S_, .f32⟩
  | 58 => ⟨S2x1x4x512x512, .f32⟩
  | 59 => ⟨S2x1x4x512x512, .f32⟩
  | 60 => ⟨S_, .f32⟩
  | 61 => ⟨S_, .f32⟩
  | 62 => ⟨S2x1x4x512x512, .f32⟩
  | 63 => ⟨S2x1x4x512x512, .f32⟩
  | 64 => ⟨S_, .f32⟩
  | 65 => ⟨S_, .f32⟩
  | 66 => ⟨S2x1x4x512x512, .f32⟩
  | 67 => ⟨S2x1x4x512x512, .f32⟩
  | 68 => ⟨S2x1x4x512x512, .f32⟩
  | 69 => ⟨S2x1x4x512x512, .f32⟩
  | 70 => ⟨S2x1x4x512x512, .f32⟩
  | 71 => ⟨S2x1x4x512x512, .f32⟩
  | 72 => ⟨S2x1x4x512x512, .f32⟩
  | 73 => ⟨S_, .f32⟩
  | 74 => ⟨S2x1x4x512x512, .f32⟩
  | 75 => ⟨S2x1x4x512x512, .f32⟩
  | 76 => ⟨S2x1x4x512x512, .f32⟩
  | 77 => ⟨S2x1x4x512x512, .f32⟩
  | 78 => ⟨S_, .f32⟩
  | 79 => ⟨S2x1x4x512x512, .f32⟩
  | 80 => ⟨S2x1x4x512x512, .f32⟩
  | 81 => ⟨S2x1x4x512x512, .f32⟩
  | 82 => ⟨S2x1x1x4x512x512, .f32⟩
  | 83 => ⟨S2x1x1x4x512x512, .f32⟩
  | 84 => ⟨S2x1x1x4x512x512, .f32⟩
  | 85 => ⟨S2x1x3x4x512x512, .f32⟩
  | 86 => ⟨S4, .f32⟩
  | 87 => ⟨S512, .f32⟩
  | 88 => ⟨S512, .f32⟩
  | 89 => ⟨S4x512x512, .f32⟩
  | 90 => ⟨S4x512x512, .f32⟩
  | 91 => ⟨S4x512x512, .f32⟩
  | 92 => ⟨S1x4x512x512, .f32⟩
  | 93 => ⟨S1x4x512x512, .f32⟩
  | 94 => ⟨S1x4x512x512, .f32⟩
  | 95 => ⟨S3x4x512x512, .f32⟩
  | 96 => ⟨S1x1x3x4x512x512, .f32⟩
  | 97 => ⟨S2x1x3x4x512x512, .f32⟩
  | 98 => ⟨S2x1x3x4x512x512, .f32⟩
  | 99 => ⟨S2x3x4x512x512, .f32⟩
  | 100 => ⟨S2x4x512x512, .f32⟩
  | _ => ⟨S2x1x4x512x512, .f32⟩

abbrev hbmTy (i : Nat) : BufTy := match i / 128 with
  | 0 => hbmTy0_0 i
  | 1 => hbmTy0_1 i
  | _ => ⟨S2x1x4x512x512, .f32⟩

abbrev bufTy : (tb : Table) → Fin (tcTables nBuf tb) → BufTy
  | .hbm, ⟨i, _⟩ => hbmTy i
  | _, _ => ⟨S2x1x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_2 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_3 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_4 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_5 : Ref sig .tc := ⟨.hbm, 84, rfl⟩
abbrev main_v77 : Ref sig .tc := ⟨.hbm, 85, rfl⟩
abbrev main_v78 : Ref sig .tc := ⟨.hbm, 86, rfl⟩
abbrev main_cst_6 : Ref sig .tc := ⟨.hbm, 87, rfl⟩
abbrev main_v79 : Ref sig .tc := ⟨.hbm, 88, rfl⟩
abbrev main_v80 : Ref sig .tc := ⟨.hbm, 89, rfl⟩
abbrev main_cst_7 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_8 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_9 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_10 : Ref sig .tc := ⟨.hbm, 116, rfl⟩
abbrev main_call0_v0 : Ref sig .tc := ⟨.hbm, 117, rfl⟩
abbrev main_call0_v1 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_cst_11 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_cst_12 : Ref sig .tc := ⟨.hbm, 161, rfl⟩
abbrev main_call1_v0 : Ref sig .tc := ⟨.hbm, 162, rfl⟩
abbrev main_call1_v1 : Ref sig .tc := ⟨.hbm, 163, rfl⟩
abbrev main_v145 : Ref sig .tc := ⟨.hbm, 164, rfl⟩
abbrev main_v146 : Ref sig .tc := ⟨.hbm, 165, rfl⟩
abbrev main_cst_13 : Ref sig .tc := ⟨.hbm, 166, rfl⟩
abbrev main_call2_v0 : Ref sig .tc := ⟨.hbm, 167, rfl⟩
abbrev main_call2_v1 : Ref sig .tc := ⟨.hbm, 168, rfl⟩
abbrev main_v147 : Ref sig .tc := ⟨.hbm, 169, rfl⟩
abbrev main_v148 : Ref sig .tc := ⟨.hbm, 170, rfl⟩
abbrev main_cst_14 : Ref sig .tc := ⟨.hbm, 171, rfl⟩
abbrev main_call3_v0 : Ref sig .tc := ⟨.hbm, 172, rfl⟩
abbrev main_call3_v1 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_cst_15 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_call4_v0 : Ref sig .tc := ⟨.hbm, 185, rfl⟩
abbrev main_call4_v1 : Ref sig .tc := ⟨.hbm, 186, rfl⟩
abbrev main_v158 : Ref sig .tc := ⟨.hbm, 187, rfl⟩
abbrev main_cst_17 : Ref sig .tc := ⟨.hbm, 188, rfl⟩
abbrev main_call5_v0 : Ref sig .tc := ⟨.hbm, 189, rfl⟩
abbrev main_call5_v1 : Ref sig .tc := ⟨.hbm, 190, rfl⟩
abbrev main_v159 : Ref sig .tc := ⟨.hbm, 191, rfl⟩
abbrev main_cst_18 : Ref sig .tc := ⟨.hbm, 192, rfl⟩
abbrev main_call6_v0 : Ref sig .tc := ⟨.hbm, 193, rfl⟩
abbrev main_call6_v1 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_19 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_20 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩

abbrev nD : Nat := 1
abbrev τ : Topo := Topo.v7x

variable {F : FTy → Type} [FloatOps F]
-- ==== Proof.Spec.lean ====
/- The stencil's value at one voxel, as a function of the 3 × 3 × 3 neighbourhood of real numbers around it. Both programs
   are shown to compute this function. -/
module

public import Idealize.ShloMosaic.PureOps.Ideal

@[expose] public section

noncomputable section

namespace Cert.Stencil

/-- A neighbourhood: the value at depth, row and column offset `i - 1`, `j - 1`, `k - 1`. -/
abbrev Nbhd := Fin 3 → Fin 3 → Fin 3 → ℝ

variable (N : Nbhd)

/-- The gradient along columns. -/
def b0 : ℝ := (N 1 1 2 - N 1 1 0) / 2
/-- The gradient along rows. -/
def b1 : ℝ := (N 1 2 1 - N 1 0 1) / 2
/-- The gradient along depths. -/
def b2 : ℝ := (N 2 1 1 - N 0 1 1) / 2

/-- The Hessian: the second derivative along columns. -/
def h00 : ℝ := N 1 1 0 - 2 * N 1 1 1 + N 1 1 2
/-- The second derivative along rows. -/
def h11 : ℝ := N 1 0 1 - 2 * N 1 1 1 + N 1 2 1
/-- The second derivative along depths. -/
def h22 : ℝ := N 0 1 1 - 2 * N 1 1 1 + N 2 1 1
/-- The second derivative across columns and rows. -/
def h01 : ℝ := (N 1 0 0 - N 1 0 2 - N 1 2 0 + N 1 2 2) / 4
/-- The second derivative across rows and depths. -/
def h12 : ℝ := (-N 0 0 1 + N 0 2 1 + N 2 0 1 - N 2 2 1) / 4
/-- The second derivative across columns and depths. -/
def h02 : ℝ := (-N 0 1 0 + N 0 1 2 + N 2 1 0 - N 2 1 2) / 4

/-- The adjugate of the Hessian: the entry along columns. -/
def a00 : ℝ := h11 N * h22 N - h12 N * h12 N
/-- The adjugate's entry across columns and rows. -/
def a01 : ℝ := h02 N * h12 N - h01 N * h22 N
/-- The adjugate's entry across columns and depths. -/
def a02 : ℝ := h01 N * h12 N - h02 N * h11 N
/-- The adjugate's entry along rows. -/
def a11 : ℝ := h00 N * h22 N - h02 N * h02 N
/-- The adjugate's entry across rows and depths. -/
def a12 : ℝ := h01 N * h02 N - h00 N * h12 N
/-- The adjugate's entry along depths. -/
def a22 : ℝ := h00 N * h11 N - h01 N * h01 N

/-- The Hessian's determinant. -/
def det : ℝ := h00 N * a00 N + h01 N * a01 N + h02 N * a02 N

/-- The adjugate applied to the gradient, along columns. -/
def n0 : ℝ := a00 N * b0 N + a01 N * b1 N + a02 N * b2 N
/-- The adjugate applied to the gradient, along rows. -/
def n1 : ℝ := a01 N * b0 N + a11 N * b1 N + a12 N * b2 N
/-- The adjugate applied to the gradient, along depths. -/
def n2 : ℝ := a02 N * b0 N + a12 N * b1 N + a22 N * b2 N

/-- The largest step that is taken: the number that the 32-bit pattern nearest 0.7 denotes. -/
def lim : ℝ := 11744051 / 16777216

/-- The voxel holds the largest value of its neighbourhood. -/
def Peak : Prop := ∀ i j k, N i j k ≤ N 1 1 1

/-- The voxel is a peak at which the Hessian can be inverted. -/
def Good : Prop := Peak N ∧ det N ≠ 0

/-- The Newton step is no longer than the limit along each axis. -/
def Short : Prop := max (max |n0 N / det N| |n1 N / det N|) |n2 N / det N| ≤ lim

open Classical in
/-- What the solution is multiplied by: minus one where the step is taken, else zero. -/
def sgn : ℝ := if Good N ∧ Short N then -1 else 0

/-- The step along columns. -/
def dx0 : ℝ := n0 N / det N * sgn N
/-- The step along rows. -/
def dx1 : ℝ := n1 N / det N * sgn N
/-- The step along depths. -/
def dx2 : ℝ := n2 N / det N * sgn N

open Classical in
/-- The response: the value, half the gradient along the step, and ten at a good voxel. -/
def y : ℝ := N 1 1 1 + (b0 N * dx0 N + b1 N * dx1 N + b2 N * dx2 N) / 2 + if Good N then 10 else 0

/-- Position `a + k - 1` of an axis of `n` positions, kept inside the axis. -/
def cl {n : Nat} (a : Fin n) (k : Fin 3) : Fin n := ⟨min (a.val + k.val - 1) (n - 1), by have := a.isLt; omega⟩

/-- The middle offset moves nowhere. -/
theorem cl_one {n : Nat} (a : Fin n) : cl a 1 = a := by
  apply Fin.ext; have := a.isLt; show min (a.val + 1 - 1) (n - 1) = a.val; omega

/-- The neighbourhood of a voxel of the volume `X`, positions beyond an edge being the edge's. -/
def nb {B D H W : Nat} (X : Fin B → Fin D → Fin H → Fin W → ℝ) (b : Fin B) (d : Fin D) (h : Fin H) (w : Fin W) : Nbhd :=
  fun i j k => X b (cl d i) (cl h j) (cl w k)

end Cert.Stencil
-- ==== Proof.Cell.lean ====
/- What the kernel computes at one voxel, over the extended reals, from the sixteen numbers that it reads there; on finite
   numbers it is the function of Spec.lean. -/
module

public import proofs.«01_k».proof.Proof.Spec
public import Idealize.ShloMosaic.Lib.IdealHost
public import Idealize.ShloMosaic.PureOps.Ideal.Laws

@[expose] public section

noncomputable section

namespace Cert.Stencil

open Idealize.ShloMosaic

/-! ### Constants and truth values -/

/-- The bit pattern of 4. -/
theorem bits_four : Ideal.ofBits .f32 0x40800000#32 = ((4 : ℝ) : EReal) := by
  simp [Ideal.ofBits, Ideal.ieee, -EReal.coe_mul]; norm_num
/-- The bit pattern of 2. -/
theorem bits_two : Ideal.ofBits .f32 0x40000000#32 = ((2 : ℝ) : EReal) := by
  simp [Ideal.ofBits, Ideal.ieee, -EReal.coe_mul]; norm_num
/-- The bit pattern of 3. -/
theorem bits_three : Ideal.ofBits .f32 0x40400000#32 = ((3 : ℝ) : EReal) := by
  simp [Ideal.ofBits, Ideal.ieee, -EReal.coe_mul]; norm_num
/-- The bit pattern of 1. -/
theorem bits_one : Ideal.ofBits .f32 0x3F800000#32 = ((1 : ℝ) : EReal) := by
  simp [Ideal.ofBits, Ideal.ieee, -EReal.coe_mul]; norm_num
/-- The bit pattern of 0. -/
theorem bits_zero : Ideal.ofBits .f32 0x00000000#32 = ((0 : ℝ) : EReal) := by
  simp [Ideal.ofBits, Ideal.ieee]
/-- The bit pattern of 1/4. -/
theorem bits_quarter : Ideal.ofBits .f32 0x3E800000#32 = ((1 / 4 : ℝ) : EReal) := by
  simp [Ideal.ofBits, Ideal.ieee, -EReal.coe_mul]; norm_num
/-- The bit pattern of 1/2. -/
theorem bits_half : Ideal.ofBits .f32 0x3F000000#32 = ((1 / 2 : ℝ) : EReal) := by
  simp [Ideal.ofBits, Ideal.ieee, -EReal.coe_mul]; norm_num
/-- The bit pattern of 10. -/
theorem bits_ten : Ideal.ofBits .f32 0x41200000#32 = ((10 : ℝ) : EReal) := by
  simp [Ideal.ofBits, Ideal.ieee, -EReal.coe_mul]; norm_num
/-- The bit pattern of the step limit. -/
theorem bits_lim : Ideal.ofBits .f32 0x3F333333#32 = ((lim : ℝ) : EReal) := by
  unfold lim; simp [Ideal.ofBits, Ideal.ieee, -EReal.coe_mul]; norm_num
/-- The bit pattern of plus infinity. -/
theorem bits_inf : Ideal.ofBits .f32 0x7F800000#32 = ⊤ := by
  simp [Ideal.ofBits, Ideal.ieee]
/-- The bit pattern of minus infinity. -/
theorem bits_neg_inf : Ideal.ofBits .f32 0xFF800000#32 = ⊥ := by
  simp [Ideal.ofBits, Ideal.ieee]

/-- A larger of two real numbers, and a magnitude, as extended reals. -/
theorem coe_max (a b : ℝ) : ((max a b : ℝ) : EReal) = max (a : EReal) b := EReal.coe_strictMono.monotone.map_max
/-- The larger of a real number and its negation is its absolute value. -/
theorem coe_abs (a : ℝ) : max (a : EReal) (-(a : EReal)) = ((|a| : ℝ) : EReal) := by
  rw [← EReal.coe_neg, ← coe_max]; rfl

open Classical in
/-- A choice made on a truth value, by the proposition that it decides. -/
theorem select_ofBool {α : Type} (p : Prop) [Decidable p] (a b : α) :
    Scalar.select (BitVec.ofBool (decide p)) a b = if p then a else b := by
  by_cases h : p <;> simp [Scalar.select, h]

/-- The conjunction of two truth values. -/
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']

/-! ### The kernel at one voxel -/

/-- What the kernel reads at a voxel: the value, its neighbours along columns, rows and depths, the column differences at the
    row before and after, the row differences and the column differences at the depth before, after and its own, and the
    largest value of the 3 × 3 neighbourhood in each of the three depths. -/
structure Cell where
  (c cwm cwp chm chp cdm cdp khm khp ldm ldp kdm kdp k l mdm m mdp : EReal)

namespace Cell
variable (q : Cell)

/-- Twice the value. -/
def two : EReal := q.c + q.c
/-- Four times the second derivative along columns, as the kernel forms it. -/
def m00 : EReal := Ideal.ofBits .f32 0x40800000#32 * ((q.cwm + q.cwp) - q.two)
/-- Four times the second derivative along rows, as the kernel forms it. -/
def m11 : EReal := Ideal.ofBits .f32 0x40800000#32 * ((q.chm + q.chp) - q.two)
/-- Four times the second derivative along depths, as the kernel forms it. -/
def m22 : EReal := Ideal.ofBits .f32 0x40800000#32 * ((q.cdm + q.cdp) - q.two)
/-- Four times the second derivative across columns and rows, as the kernel forms it. -/
def m01 : EReal := q.khm - q.khp
/-- Four times the second derivative across rows and depths, as the kernel forms it. -/
def m12 : EReal := q.ldm - q.ldp
/-- Four times the second derivative across columns and depths, as the kernel forms it. -/
def m02 : EReal := q.kdp - q.kdm
/-- Twice the gradient along depths. -/
def bu2 : EReal := q.cdp - q.cdm
/-- The adjugate's entry along columns, of the scaled Hessian. -/
def a00 : EReal := q.m11 * q.m22 - q.m12 * q.m12
/-- The adjugate's entry across columns and rows, of the scaled Hessian. -/
def a01 : EReal := q.m02 * q.m12 - q.m01 * q.m22
/-- The adjugate's entry across columns and depths, of the scaled Hessian. -/
def a02 : EReal := q.m01 * q.m12 - q.m02 * q.m11
/-- The adjugate's entry along rows, of the scaled Hessian. -/
def a11 : EReal := q.m00 * q.m22 - q.m02 * q.m02
/-- The adjugate's entry across rows and depths, of the scaled Hessian. -/
def a12 : EReal := q.m01 * q.m02 - q.m00 * q.m12
/-- The adjugate's entry along depths, of the scaled Hessian. -/
def a22 : EReal := q.m00 * q.m11 - q.m01 * q.m01
/-- The determinant of the scaled Hessian. -/
def det : EReal := (q.m00 * q.a00 + q.m01 * q.a01) + q.m02 * q.a02
/-- Whether that determinant is not zero. -/
def valid : BitVec 1 := Ideal.cmp .one q.det (Ideal.ofBits .f32 0x00000000#32)
/-- Two divided by the determinant, by one where the determinant is zero. -/
def recip : EReal :=
  Ideal.div (Ideal.ofBits .f32 0x40000000#32) (Scalar.select q.valid q.det (Ideal.ofBits .f32 0x3F800000#32))
/-- The scaled adjugate applied to the scaled gradient, along columns. -/
def dot0 : EReal := (q.a01 * q.l + q.a02 * q.bu2) - q.a00 * q.k
/-- The scaled adjugate applied to the scaled gradient, along rows. -/
def dot1 : EReal := (q.a11 * q.l + q.a12 * q.bu2) - q.a01 * q.k
/-- The scaled adjugate applied to the scaled gradient, along depths. -/
def dot2 : EReal := (q.a12 * q.l + q.a22 * q.bu2) - q.a02 * q.k
/-- Whether the value is the largest of its neighbourhood and the determinant is not zero. -/
def nms : BitVec 1 := IntOp.andi (Ideal.cmp .oeq q.c (max (max q.mdm q.m) q.mdp)) q.valid
/-- The largest magnitude of the three products. -/
def amax : EReal := max (max (max q.dot0 (-q.dot0)) (max q.dot1 (-q.dot1))) (max q.dot2 (-q.dot2))
/-- Whether the step is within the limit. -/
def small : BitVec 1 := Ideal.cmp .ole (q.amax * max q.recip (-q.recip)) (Ideal.ofBits .f32 0x3F333333#32)
/-- What the products are multiplied by: the negated quotient where the step is taken, else zero. -/
def scale : EReal :=
  Scalar.select (IntOp.andi q.nms q.small) (Ideal.ofBits .f32 0x00000000#32 - q.recip) (Ideal.ofBits .f32 0x00000000#32)
/-- The step along columns. -/
def dx0 : EReal := q.dot0 * q.scale
/-- The step along rows. -/
def dx1 : EReal := q.dot1 * q.scale
/-- The step along depths. -/
def dx2 : EReal := q.dot2 * q.scale
/-- The response. -/
def y : EReal :=
  (q.c + Ideal.ofBits .f32 0x3E800000#32 * ((q.l * q.dx1 + q.bu2 * q.dx2) - q.k * q.dx0))
    + Scalar.select q.nms (Ideal.ofBits .f32 0x41200000#32) (Ideal.ofBits .f32 0x00000000#32)

end Cell

/-- The largest value of a column of three, and of a square of nine, in the kernel's order. -/
def max3 (f : Fin 3 → EReal) : EReal := max (max (f 0) (f 1)) (f 2)
/-- The largest value of a square of nine, column of three by column of three. -/
def max9 (f : Fin 3 → Fin 3 → EReal) : EReal := max3 fun k => max3 fun j => f j k

/-- What the kernel reads at a voxel whose neighbourhood is `M`. -/
def cellOf (M : Fin 3 → Fin 3 → Fin 3 → EReal) : Cell where
  c := M 1 1 1
  cwm := M 1 1 0
  cwp := M 1 1 2
  chm := M 1 0 1
  chp := M 1 2 1
  cdm := M 0 1 1
  cdp := M 2 1 1
  khm := M 1 0 0 - M 1 0 2
  khp := M 1 2 0 - M 1 2 2
  ldm := M 0 2 1 - M 0 0 1
  ldp := M 2 2 1 - M 2 0 1
  kdm := M 0 1 0 - M 0 1 2
  kdp := M 2 1 0 - M 2 1 2
  k := M 1 1 0 - M 1 1 2
  l := M 1 2 1 - M 1 0 1
  mdm := max9 (M 0)
  m := max9 (M 1)
  mdp := max9 (M 2)

/-! ### On finite numbers -/

variable (N : Nbhd)

/-- The kernel's reads at a neighbourhood of real numbers. -/
def cellR : Cell := cellOf fun i j k => ((N i j k : ℝ) : EReal)

/-- The kernel's entry along columns is four times the Hessian's. -/
theorem m00_eq : (cellR N).m00 = ((4 * h00 N : ℝ) : EReal) := by
  simp only [Cell.m00, Cell.two, cellR, cellOf, bits_four, ← EReal.coe_add, ← EReal.coe_sub, ← EReal.coe_mul, h00]
  congr 1; ring
/-- The kernel's entry along rows is four times the Hessian's. -/
theorem m11_eq : (cellR N).m11 = ((4 * h11 N : ℝ) : EReal) := by
  simp only [Cell.m11, Cell.two, cellR, cellOf, bits_four, ← EReal.coe_add, ← EReal.coe_sub, ← EReal.coe_mul, h11]
  congr 1; ring
/-- The kernel's entry along depths is four times the Hessian's. -/
theorem m22_eq : (cellR N).m22 = ((4 * h22 N : ℝ) : EReal) := by
  simp only [Cell.m22, Cell.two, cellR, cellOf, bits_four, ← EReal.coe_add, ← EReal.coe_sub, ← EReal.coe_mul, h22]
  congr 1; ring
/-- The kernel's entry across columns and rows is four times the Hessian's. -/
theorem m01_eq : (cellR N).m01 = ((4 * h01 N : ℝ) : EReal) := by
  simp only [Cell.m01, cellR, cellOf, ← EReal.coe_sub, h01]
  congr 1; ring
/-- The kernel's entry across rows and depths is four times the Hessian's. -/
theorem m12_eq : (cellR N).m12 = ((4 * h12 N : ℝ) : EReal) := by
  simp only [Cell.m12, cellR, cellOf, ← EReal.coe_sub, h12]
  congr 1; ring
/-- The kernel's entry across columns and depths is four times the Hessian's. -/
theorem m02_eq : (cellR N).m02 = ((4 * h02 N : ℝ) : EReal) := by
  simp only [Cell.m02, cellR, cellOf, ← EReal.coe_sub, h02]
  congr 1; ring
/-- The difference along depths is twice the gradient. -/
theorem bu2_eq : (cellR N).bu2 = ((2 * b2 N : ℝ) : EReal) := by
  simp only [Cell.bu2, cellR, cellOf, ← EReal.coe_sub, b2]
  congr 1; ring
/-- The difference along rows is twice the gradient. -/
theorem l_eq : (cellR N).l = ((2 * b1 N : ℝ) : EReal) := by
  simp only [cellR, cellOf, ← EReal.coe_sub, b1]
  congr 1; ring
/-- The difference along columns is minus twice the gradient. -/
theorem k_eq : (cellR N).k = ((-(2 * b0 N) : ℝ) : EReal) := by
  simp only [cellR, cellOf, ← EReal.coe_sub, b0]
  congr 1; ring
/-- The value the kernel reads is the middle of the neighbourhood. -/
theorem c_eq : (cellR N).c = ((N 1 1 1 : ℝ) : EReal) := rfl

/-- The adjugate's entries are sixteen times those of the Hessian … -/
theorem a00_eq : (cellR N).a00 = ((16 * a00 N : ℝ) : EReal) := by
  simp only [Cell.a00, m11_eq, m22_eq, m12_eq, ← EReal.coe_sub, ← EReal.coe_mul, a00]
  congr 1; ring
/-- The adjugate's entry across columns and rows, likewise sixteen times. -/
theorem a01_eq : (cellR N).a01 = ((16 * a01 N : ℝ) : EReal) := by
  simp only [Cell.a01, m02_eq, m01_eq, m22_eq, m12_eq, ← EReal.coe_sub, ← EReal.coe_mul, a01]
  congr 1; ring
/-- The adjugate's entry across columns and depths, likewise sixteen times. -/
theorem a02_eq : (cellR N).a02 = ((16 * a02 N : ℝ) : EReal) := by
  simp only [Cell.a02, m02_eq, m01_eq, m11_eq, m12_eq, ← EReal.coe_sub, ← EReal.coe_mul, a02]
  congr 1; ring
/-- The adjugate's entry along rows, likewise sixteen times. -/
theorem a11_eq : (cellR N).a11 = ((16 * a11 N : ℝ) : EReal) := by
  simp only [Cell.a11, m02_eq, m00_eq, m22_eq, ← EReal.coe_sub, ← EReal.coe_mul, a11]
  congr 1; ring
/-- The adjugate's entry across rows and depths, likewise sixteen times. -/
theorem a12_eq : (cellR N).a12 = ((16 * a12 N : ℝ) : EReal) := by
  simp only [Cell.a12, m02_eq, m01_eq, m00_eq, m12_eq, ← EReal.coe_sub, ← EReal.coe_mul, a12]
  congr 1; ring
/-- The adjugate's entry along depths, likewise sixteen times. -/
theorem a22_eq : (cellR N).a22 = ((16 * a22 N : ℝ) : EReal) := by
  simp only [Cell.a22, m00_eq, m01_eq, m11_eq, ← EReal.coe_sub, ← EReal.coe_mul, a22]
  congr 1; ring

/-- … the determinant sixty-four times, … -/
theorem det_eq : (cellR N).det = ((64 * det N : ℝ) : EReal) := by
  simp only [Cell.det, m00_eq, m01_eq, m02_eq, a00_eq, a01_eq, a02_eq, ← EReal.coe_add, ← EReal.coe_mul, det]
  congr 1; ring

/-- … and the adjugate applied to the gradient thirty-two times. -/
theorem dot0_eq : (cellR N).dot0 = ((32 * n0 N : ℝ) : EReal) := by
  simp only [Cell.dot0, a00_eq, a01_eq, a02_eq, bu2_eq, l_eq, k_eq, ← EReal.coe_add, ← EReal.coe_sub, ← EReal.coe_mul, n0]
  congr 1; ring
/-- The product along rows, likewise thirty-two times. -/
theorem dot1_eq : (cellR N).dot1 = ((32 * n1 N : ℝ) : EReal) := by
  simp only [Cell.dot1, a11_eq, a01_eq, a12_eq, bu2_eq, l_eq, k_eq, ← EReal.coe_add, ← EReal.coe_sub, ← EReal.coe_mul, n1]
  congr 1; ring
/-- The product along depths, likewise thirty-two times. -/
theorem dot2_eq : (cellR N).dot2 = ((32 * n2 N : ℝ) : EReal) := by
  simp only [Cell.dot2, a12_eq, a22_eq, a02_eq, bu2_eq, l_eq, k_eq, ← EReal.coe_add, ← EReal.coe_sub, ← EReal.coe_mul, n2]
  congr 1; ring

open Classical in
/-- The kernel's determinant is not zero just where the Hessian's is not. -/
theorem valid_eq : (cellR N).valid = BitVec.ofBool (decide (det N ≠ 0)) := by
  simp only [Cell.valid, det_eq, bits_zero, Ideal.cmp]
  congr 1
  simp [EReal.coe_eq_coe_iff]

open Classical in
/-- Two divided by the kernel's determinant, or two where that is zero. -/
theorem recip_eq : (cellR N).recip = ((if det N ≠ 0 then 1 / (32 * det N) else 2 : ℝ) : EReal) := by
  simp only [Cell.recip, valid_eq, select_ofBool, det_eq, bits_two, bits_one]
  by_cases h : det N ≠ 0
  · rw [if_pos h, if_pos h, Ideal.div_coe (by simpa using h), ← EReal.coe_mul]
    congr 1; field_simp; norm_num
  · rw [if_neg h, if_neg h, Ideal.div_coe one_ne_zero, ← EReal.coe_mul]
    congr 1; norm_num

/-- A value that is the largest of its neighbourhood equals the neighbourhood's largest value, and conversely. -/
theorem peak_iff : (cellR N).c = max (max (cellR N).mdm (cellR N).m) (cellR N).mdp ↔ Peak N := by
  have hle : (cellR N).c ≤ max (max (cellR N).mdm (cellR N).m) (cellR N).mdp := by
    simp [cellR, cellOf, max9, max3]
  constructor
  · intro h
    have h' := h.ge
    simp only [cellR, cellOf, max9, max3, max_le_iff, EReal.coe_le_coe_iff] at h'
    intro i j k
    fin_cases i <;> fin_cases j <;> fin_cases k <;> simp only [Fin.zero_eta, Fin.mk_one, Fin.reduceFinMk] <;> tauto
  · intro h
    refine le_antisymm hle ?_
    simp only [cellR, cellOf, max9, max3, max_le_iff, EReal.coe_le_coe_iff]
    and_intros <;> apply h

open Classical in
/-- The kernel's mask is the good voxels. -/
theorem nms_eq : (cellR N).nms = BitVec.ofBool (decide (Good N)) := by
  simp only [Cell.nms, valid_eq, Ideal.cmp, andi_ofBool, Good]
  congr 1
  exact decide_eq_decide.2 (and_congr (peak_iff N) Iff.rfl)

/-- Where the determinant is not zero, the kernel's comparison is that of the step with the limit. -/
theorem amax_le_iff (h : det N ≠ 0) : (cellR N).amax * max (cellR N).recip (-(cellR N).recip) ≤ ((lim : ℝ) : EReal) ↔ Short N := by
  simp only [Cell.amax, dot0_eq, dot1_eq, dot2_eq, recip_eq, if_pos h, coe_abs, ← coe_max, ← EReal.coe_mul,
    EReal.coe_le_coe_iff, Short]
  rw [max_mul_of_nonneg _ _ (abs_nonneg _), max_mul_of_nonneg _ _ (abs_nonneg _), ← abs_mul, ← abs_mul, ← abs_mul]
  have e (n : ℝ) : 32 * n * (1 / (32 * det N)) = n / det N := by field_simp
  rw [e, e, e]

open Classical in
/-- The kernel's factor, in terms of the determinant and whether the step is taken. -/
theorem scale_eq : (cellR N).scale = ((if det N ≠ 0 then sgn N / (32 * det N) else 0 : ℝ) : EReal) := by
  simp only [Cell.scale, nms_eq, Cell.small, Ideal.cmp, bits_lim, andi_ofBool, select_ofBool, bits_zero]
  by_cases h : det N ≠ 0
  · have hs := amax_le_iff N h
    simp only [recip_eq, if_pos h] at hs ⊢
    simp only [hs, ← EReal.coe_sub, sgn]
    by_cases g : Good N ∧ Short N
    · rw [if_pos g, if_pos g]; congr 1; ring
    · rw [if_neg g, if_neg g]; congr 1; ring
  · rw [if_neg h, if_neg (fun g => h g.1.2)]

/-- A scaled component times the kernel's factor is the component's step. -/
theorem dot_scale (n : ℝ) : ((32 * n : ℝ) : EReal) * (cellR N).scale = ((n / det N * sgn N : ℝ) : EReal) := by
  classical
  rw [scale_eq, ← EReal.coe_mul]
  congr 1
  by_cases h : det N ≠ 0
  · rw [if_pos h]; field_simp
  · rw [if_neg h, not_not.1 h]; simp

/-- The kernel's step along columns. -/
theorem dx0_eq : (cellR N).dx0 = ((dx0 N : ℝ) : EReal) := by rw [Cell.dx0, dot0_eq, dot_scale, dx0]
/-- The kernel's step along rows. -/
theorem dx1_eq : (cellR N).dx1 = ((dx1 N : ℝ) : EReal) := by rw [Cell.dx1, dot1_eq, dot_scale, dx1]
/-- The kernel's step along depths. -/
theorem dx2_eq : (cellR N).dx2 = ((dx2 N : ℝ) : EReal) := by rw [Cell.dx2, dot2_eq, dot_scale, dx2]

/-- The kernel's response at a voxel. -/
theorem y_eq : (cellR N).y = ((y N : ℝ) : EReal) := by
  classical
  simp only [Cell.y, c_eq, l_eq, k_eq, bu2_eq, dx0_eq, dx1_eq, dx2_eq, bits_quarter, bits_ten, bits_zero, nms_eq, select_ofBool, y]
  by_cases g : Good N
  · simp only [if_pos g, ← EReal.coe_add, ← EReal.coe_sub, ← EReal.coe_mul]; congr 1; ring
  · simp only [if_neg g, ← EReal.coe_add, ← EReal.coe_sub, ← EReal.coe_mul]; congr 1; ring

end Cert.Stencil
-- ==== Proof.Rows.lean ====
/- Slices and concatenations that move an array by one row or one column, read at an index. -/
module

public import proofs.«01_k».proof.Proof.Spec
public import Idealize.ShloMosaic.Lib.Pipeline.Value
public import Idealize.ShloMosaic.Lib.ValueIdxCore

@[expose] public section

namespace Cert.Stencil

open Idealize.ShloMosaic Idealize.ShloMosaic.ValueIdx

variable {α : Type}

/-- The shape of `n` rows of the volume. -/
abbrev SR (n : Nat) : Shape := ⟨4, ![2, 4, n, 512]⟩
/-- The shape of `n` rows and `k` columns. -/
abbrev SC (n k : Nat) : Shape := ⟨4, ![2, 4, n, k]⟩

/-- Row `r` of block `i` in the volume. -/
def row (i : Fin 8) (r : Fin 64) : Fin 512 := ⟨64 * i.val + r.val, by have := i.isLt; have := r.isLt; omega⟩

/-- Each row's next row: the rows after the first, then the row after the last. -/
theorem next_row (F : Fin 2 → Fin 4 → Fin 512 → Fin 512 → α) (i : Fin 8) (A : (SR 64).Idx → α) (e : (SR 1).Idx → α)
    (hA : ∀ b d r w, A (ix4 b d r w) = F b d (row i r) w) (he : ∀ b d w, e (ix4 b d 0 w) = F b d (cl (row i 63) 2) w)
    (hs : (SR 64).Slices ![0, 0, 1, 0] (SR 63)) (hc : Shape.Concatenates [SR 63, SR 1] (SR 64) 2)
    (b : Fin 2) (d : Fin 4) (r : Fin 64) (w : Fin 512) :
    concatenate (SR 64) 2 [⟨SR 63, extractStridedSlice (SR 63) ![0, 0, 1, 0] A hs⟩, ⟨SR 1, e⟩] hc (ix4 b d r w)
      = F b d (cl (row i r) 2) w := by
  by_cases h : r.val < 63
  · refine (concatenate_pair_apply_left (t := SR 64) 2 _ _ hc _ rfl (ix4 b d ⟨r.val, h⟩ w) (fun a => by fin_cases a <;> rfl)).trans ?_
    refine (extractStridedSlice_apply _ _ hs _ (ix4 b d ⟨r.val + 1, by omega⟩ w) (fun a => by fin_cases a <;> simp [Nat.add_comm])).trans ?_
    rw [hA]
    congr 1; apply Fin.ext; show 64 * i.val + (r.val + 1) = min (64 * i.val + r.val + 2 - 1) (512 - 1)
    have := i.isLt; omega
  · obtain rfl : r = 63 := Fin.ext (by have := r.isLt; show r.val = 63; omega)
    refine (concatenate_pair_apply_right (t := SR 64) 2 _ _ hc _ rfl rfl (ix4 b d 0 w)
      (fun a ha => by fin_cases a <;> first | rfl | exact absurd rfl ha) rfl).trans (he b d w)

/-- Each row's previous row: the row before the first, then the rows before the last. -/
theorem prev_row (F : Fin 2 → Fin 4 → Fin 512 → Fin 512 → α) (i : Fin 8) (A : (SR 64).Idx → α) (e : (SR 1).Idx → α)
    (hA : ∀ b d r w, A (ix4 b d r w) = F b d (row i r) w) (he : ∀ b d w, e (ix4 b d 0 w) = F b d (cl (row i 0) 0) w)
    (hs : (SR 64).Slices ![0, 0, 0, 0] (SR 63)) (hc : Shape.Concatenates [SR 1, SR 63] (SR 64) 2)
    (b : Fin 2) (d : Fin 4) (r : Fin 64) (w : Fin 512) :
    concatenate (SR 64) 2 [⟨SR 1, e⟩, ⟨SR 63, extractStridedSlice (SR 63) ![0, 0, 0, 0] A hs⟩] hc (ix4 b d r w)
      = F b d (cl (row i r) 0) w := by
  by_cases h : r.val = 0
  · obtain rfl : r = 0 := Fin.ext h
    exact (concatenate_pair_apply_left (t := SR 64) 2 _ _ hc _ rfl (ix4 b d 0 w) (fun a => by fin_cases a <;> rfl)).trans (he b d w)
  · have hr : r.val - 1 < 63 := by have := r.isLt; omega
    refine (concatenate_pair_apply_right (t := SR 64) 2 _ _ hc _ rfl rfl (ix4 b d ⟨r.val - 1, hr⟩ w)
      (fun a ha => by fin_cases a <;> first | rfl | exact absurd rfl ha) (by show r.val - 1 + 1 = r.val; omega)).trans ?_
    refine (extractStridedSlice_apply _ _ hs _ (ix4 b d ⟨r.val - 1, by omega⟩ w) (fun a => by fin_cases a <;> simp)).trans ?_
    rw [hA]
    congr 1; apply Fin.ext; show 64 * i.val + (r.val - 1) = min (64 * i.val + r.val + 0 - 1) (512 - 1)
    have := i.isLt; have := r.isLt; omega

/-- Each column's next column: the columns after the first, then the last again. -/
theorem next_col {n : Nat} (A : (SR n).Idx → α)
    (hs : (SR n).Slices ![0, 0, 0, 1] (SC n 511)) (hs' : (SR n).Slices ![0, 0, 0, 511] (SC n 1))
    (hc : Shape.Concatenates [SC n 511, SC n 1] (SR n) 3) (b : Fin 2) (d : Fin 4) (r : Fin n) (w : Fin 512) :
    concatenate (SR n) 3 [⟨SC n 511, extractStridedSlice (SC n 511) ![0, 0, 0, 1] A hs⟩,
      ⟨SC n 1, extractStridedSlice (SC n 1) ![0, 0, 0, 511] A hs'⟩] hc (ix4 b d r w) = A (ix4 b d r (cl w 2)) := by
  by_cases h : w.val < 511
  · refine (concatenate_pair_apply_left (t := SR n) 3 _ _ hc _ rfl (ix4 b d r ⟨w.val, h⟩) (fun a => by fin_cases a <;> rfl)).trans ?_
    exact extractStridedSlice_apply _ _ hs _ (ix4 b d r (cl w 2)) (fun a => by fin_cases a <;> simp [cl]; omega)
  · obtain rfl : w = 511 := Fin.ext (by have := w.isLt; show w.val = 511; omega)
    refine (concatenate_pair_apply_right (t := SR n) 3 _ _ hc _ rfl rfl (ix4 b d r 0)
      (fun a ha => by fin_cases a <;> first | rfl | exact absurd rfl ha) rfl).trans ?_
    exact extractStridedSlice_apply _ _ hs' _ (ix4 b d r (cl 511 2)) (fun a => by fin_cases a <;> simp [cl])

/-- Each column's previous column: the first again, then the columns before the last. -/
theorem prev_col {n : Nat} (A : (SR n).Idx → α)
    (hs : (SR n).Slices ![0, 0, 0, 0] (SC n 1)) (hs' : (SR n).Slices ![0, 0, 0, 0] (SC n 511))
    (hc : Shape.Concatenates [SC n 1, SC n 511] (SR n) 3) (b : Fin 2) (d : Fin 4) (r : Fin n) (w : Fin 512) :
    concatenate (SR n) 3 [⟨SC n 1, extractStridedSlice (SC n 1) ![0, 0, 0, 0] A hs⟩,
      ⟨SC n 511, extractStridedSlice (SC n 511) ![0, 0, 0, 0] A hs'⟩] hc (ix4 b d r w) = A (ix4 b d r (cl w 0)) := by
  by_cases h : w.val = 0
  · obtain rfl : w = 0 := Fin.ext h
    refine (concatenate_pair_apply_left (t := SR n) 3 _ _ hc _ rfl (ix4 b d r 0) (fun a => by fin_cases a <;> rfl)).trans ?_
    exact extractStridedSlice_apply _ _ hs _ (ix4 b d r (cl 0 0)) (fun a => by fin_cases a <;> simp [cl])
  · have hw : w.val - 1 < 511 := by have := w.isLt; omega
    refine (concatenate_pair_apply_right (t := SR n) 3 _ _ hc _ rfl rfl (ix4 b d r ⟨w.val - 1, hw⟩)
      (fun a ha => by fin_cases a <;> first | rfl | exact absurd rfl ha) (by show w.val - 1 + 1 = w.val; omega)).trans ?_
    exact extractStridedSlice_apply _ _ hs' _ (ix4 b d r (cl w 0)) (fun a => by fin_cases a <;> simp [cl])

/-- A depth of the volume, taken as an array of planes. -/
theorem plane {n k : Nat} (A : (SC n k).Idx → α) (d : Fin 4) (off : Fin 4 → Nat) (ho : off = ![0, d.val, 0, 0])
    (hs : (SC n k).Slices off ⟨4, ![2, 1, n, k]⟩) (hc : (⟨4, ![2, 1, n, k]⟩ : Shape).ShapeCasts ⟨3, ![2, n, k]⟩)
    (b : Fin 2) (r : Fin n) (w : Fin k) :
    shapeCast ⟨3, ![2, n, k]⟩ (extractStridedSlice ⟨4, ![2, 1, n, k]⟩ off A hs) hc (ix3 b r w) = A (ix4 b d r w) := by
  subst ho
  rw [shapeCast_apply _ _ _ (ix4 b 0 r w)
    (by rw [Shape.rowMajor_val_four, Shape.rowMajor_val_three]
        show ((b.val * 1 + 0) * n + r.val) * k + w.val = (b.val * n + r.val) * k + w.val
        rw [Nat.mul_one, Nat.add_zero]),
    extractStridedSlice_apply _ _ _ _ (ix4 b d r w) (fun a => by fin_cases a <;> simp)]

/-- A plane stored as one depth of a block. -/
theorem cast4 (v : (⟨3, ![2, 64, 512]⟩ : Shape).Idx → α)
    (hc : (⟨3, ![2, 64, 512]⟩ : Shape).ShapeCasts ⟨4, ![2, 1, 64, 512]⟩) (j : (⟨4, ![2, 1, 64, 512]⟩ : Shape).Idx) :
    shapeCast ⟨4, ![2, 1, 64, 512]⟩ v hc j = v (ix3 (j 0) (j 2) (j 3)) := by
  rw [shapeCast_apply _ _ _ (ix3 (j 0) (j 2) (j 3) : (⟨3, ![2, 64, 512]⟩ : Shape).Idx)
    (by rw [Shape.rowMajor_val_four, Shape.rowMajor_val_three]; have : (j 1).val = 0 := by (have := (j 1).isLt; simp at this; omega)
        simp [this])]

/-- A plane stored as one depth of one channel of a block. -/
theorem cast5 (v : (⟨3, ![2, 64, 512]⟩ : Shape).Idx → α)
    (hc : (⟨3, ![2, 64, 512]⟩ : Shape).ShapeCasts ⟨5, ![2, 1, 1, 64, 512]⟩) (j : (⟨5, ![2, 1, 1, 64, 512]⟩ : Shape).Idx) :
    shapeCast ⟨5, ![2, 1, 1, 64, 512]⟩ v hc j = v (ix3 (j 0) (j 3) (j 4)) := by
  rw [shapeCast_apply _ _ _ (ix3 (j 0) (j 3) (j 4) : (⟨3, ![2, 64, 512]⟩ : Shape).Idx)
    (by rw [Shape.rowMajor_val_five, Shape.rowMajor_val_three]
        have h1 : (j 1).val = 0 := by (have := (j 1).isLt; simp at this; omega)
        have h2 : (j 2).val = 0 := by (have := (j 2).isLt; simp at this; omega)
        simp [h1, h2])]

end Cert.Stencil
-- ==== Proof.Planes.lean ====
/- The payloads that the kernel stores for each depth, read at an index: they are the functions of Cell.lean, of the arrays
   that the kernel prepares from its block. -/
module

public import proofs.«01_k».proof.Proof.Cell
public import proofs.«01_k».proof.Proof.Rows
public import proofs.«01_k».proof.Proof.Gen.KernelIdeal.Value
public import Idealize.ShloMosaic.Lib.ValueIdx

@[expose] public section

namespace Cert.Stencil

open Idealize.ShloMosaic Idealize.ShloMosaic.ValueIdx Cert.KernelIdeal Cert.KernelIdeal.Gen

/-- The arrays that the kernel prepares from its block: the block itself, its next and previous rows, next and previous
    columns, the column differences, the row differences, the column differences of the previous and next rows, and the
    largest value of each 3 × 3 neighbourhood. -/
structure Arrs where
  (c chp chm cwp cwm k l khm khp mh : FVec Ideal S2x4x64x512 .f32)

/-- The numbers that the kernel reads at one voxel. -/
def Arrs.cell (A : Arrs) (b : Fin 2) (r : Fin 64) (w : Fin 512) (dm d dp : Fin 4) : Cell where
  c := A.c (ix4 b d r w)
  cwm := A.cwm (ix4 b d r w)
  cwp := A.cwp (ix4 b d r w)
  chm := A.chm (ix4 b d r w)
  chp := A.chp (ix4 b d r w)
  cdm := A.c (ix4 b dm r w)
  cdp := A.c (ix4 b dp r w)
  khm := A.khm (ix4 b d r w)
  khp := A.khp (ix4 b d r w)
  ldm := A.l (ix4 b dm r w)
  ldp := A.l (ix4 b dp r w)
  kdm := A.k (ix4 b dm r w)
  kdp := A.k (ix4 b dp r w)
  k := A.k (ix4 b d r w)
  l := A.l (ix4 b d r w)
  mdm := A.mh (ix4 b dm r w)
  m := A.mh (ix4 b d r w)
  mdp := A.mh (ix4 b dp r w)

variable (c : Dev nD) (i : grid0.Coords) (arg1 : Memref sig .tc .vmem S2x4x64x512 .f32) (harg1 : arg1.IsWhole)
  (arg2 : Memref sig .tc .vmem S2x4x8x512 .f32) (harg2 : arg2.IsWhole)
  (arg3 : Memref sig .tc .vmem S2x4x8x512 .f32) (harg3 : arg3.IsWhole)
  (x0 : Vec Ideal S2x4x64x512 .f32) (x1 : Vec Ideal S2x4x8x512 .f32) (x2 : Vec Ideal S2x4x8x512 .f32)

/-- The arrays of the run at grid step `i`. -/
noncomputable def arrs : Arrs where
  c := kernelRun0_A.sl.r c arg1 harg1 x0
  chp := kernelRun0_A.sl.r_1 c i arg1 harg1 arg3 harg3 x0 x2
  chm := kernelRun0_A.sl.r_2 c i arg1 harg1 arg2 harg2 x0 x1
  cwp := kernelRun0_A.sl.r_3 c arg1 harg1 x0
  cwm := kernelRun0_A.sl.r_4 c arg1 harg1 x0
  k := kernelRun0_A.sl.r_5 c arg1 harg1 x0
  l := kernelRun0_A.sl.r_6 c i arg1 harg1 arg2 harg2 arg3 harg3 x0 x1 x2
  khm := kernelRun0_A.sl.r_8 c i arg1 harg1 arg2 harg2 x0 x1
  khp := kernelRun0_A.sl.r_10 c i arg1 harg1 arg3 harg3 x0 x2
  mh := kernelRun0_A.sl.r_11 c i arg1 harg1 arg2 harg2 arg3 harg3 x0 x1 x2

/-- Depth 0 of a volume, cut out and flattened, read at a position. -/
theorem plane0 {n k : Nat} {α : Type} (A : (SC n k).Idx → α) (hs hc) (b : Fin 2) (r : Fin n) (w : Fin k) :
    shapeCast ⟨3, ![2, n, k]⟩ (extractStridedSlice ⟨4, ![2, 1, n, k]⟩ ![0, 0, 0, 0] A hs) hc (ix3 b r w) = A (ix4 b 0 r w) :=
  plane A 0 _ rfl hs hc b r w
/-- Depth 1 of a volume, cut out and flattened, read at a position. -/
theorem plane1 {n k : Nat} {α : Type} (A : (SC n k).Idx → α) (hs hc) (b : Fin 2) (r : Fin n) (w : Fin k) :
    shapeCast ⟨3, ![2, n, k]⟩ (extractStridedSlice ⟨4, ![2, 1, n, k]⟩ ![0, 1, 0, 0] A hs) hc (ix3 b r w) = A (ix4 b 1 r w) :=
  plane A 1 _ rfl hs hc b r w
/-- Depth 2 of a volume, cut out and flattened, read at a position. -/
theorem plane2 {n k : Nat} {α : Type} (A : (SC n k).Idx → α) (hs hc) (b : Fin 2) (r : Fin n) (w : Fin k) :
    shapeCast ⟨3, ![2, n, k]⟩ (extractStridedSlice ⟨4, ![2, 1, n, k]⟩ ![0, 2, 0, 0] A hs) hc (ix3 b r w) = A (ix4 b 2 r w) :=
  plane A 2 _ rfl hs hc b r w
/-- Depth 3 of a volume, cut out and flattened, read at a position. -/
theorem plane3 {n k : Nat} {α : Type} (A : (SC n k).Idx → α) (hs hc) (b : Fin 2) (r : Fin n) (w : Fin k) :
    shapeCast ⟨3, ![2, n, k]⟩ (extractStridedSlice ⟨4, ![2, 1, n, k]⟩ ![0, 3, 0, 0] A hs) hc (ix3 b r w) = A (ix4 b 3 r w) :=
  plane A 3 _ rfl hs hc b r w

/-- The kernel's responses on the block, from its arrays. -/
noncomputable def Arrs.y (A : Arrs) : S2x4x64x512.Idx → EReal :=
  fun j => (A.cell (j 0) (j 2) (j 3) (cl (j 1) 0) (j 1) (cl (j 1) 2)).y

/-- The pattern of a depth as a 32-bit number. -/
def depthBits : Fin 4 → BitVec 32 := ![0x00000000#32, 0x3F800000#32, 0x40000000#32, 0x40400000#32]

/-- The kernel's coordinates on the block, from its arrays and its row and column numbers: the depth, the column and the row,
    each moved by its part of the step. -/
noncomputable def Arrs.coords (A : Arrs) (hidx widx : FVec Ideal S2x64x512 .f32) : S2x3x4x64x512.Idx → EReal :=
  fun j =>
    let q := A.cell (j 0) (j 3) (j 4) (cl (j 2) 0) (j 2) (cl (j 2) 2)
    (![Ideal.ofBits .f32 (depthBits (j 2)) + q.dx2, widx (ix3 (j 0) (j 3) (j 4)) + q.dx0, hidx (ix3 (j 0) (j 3) (j 4)) + q.dx1] :
      Fin 3 → EReal) (j 1)

/-- Every index of a one-depth block has depth zero. -/
theorem at4 (j : (⟨4, ![2, 1, 64, 512]⟩ : Shape).Idx) : ∃ b r w, j = ix4 b 0 r w := by
  have e : j = ix4 (j 0) 0 (j 2) (j 3) := by
    funext a; fin_cases a <;> first | rfl | exact Subsingleton.elim (α := Fin 1) _ _
  exact ⟨_, _, _, e⟩

/-- Every index of a rank-5 piece is that of a row and a column. -/
theorem at5 (j : (⟨5, ![2, 1, 1, 64, 512]⟩ : Shape).Idx) : ∃ b r w, j = ix5 b 0 0 r w := by
  have e : j = ix5 (j 0) 0 0 (j 3) (j 4) := by
    funext a; fin_cases a <;> first | rfl | exact Subsingleton.elim (α := Fin 1) _ _
  exact ⟨_, _, _, e⟩

/-- Where a one-depth block lies in the whole block. -/
theorem emb4 (d : Nat) (hd : d < 4) (inb) (b : Fin 2) (r : Fin 64) (w : Fin 512) :
    (Rect.unit (s := S2x4x64x512) ![0, d, 0, 0] S2x1x64x512.size inb).emb (ix4 b 0 r w : S2x1x64x512.Idx) = ix4 b ⟨d, hd⟩ r w := by
  funext a; apply Fin.ext; refine (Rect.emb_apply _ _ _).trans ?_
  fin_cases a
  exacts [show 0 + 1 * b.val = b.val by omega, show d + 1 * 0 = d by omega, show 0 + 1 * r.val = r.val by omega,
    show 0 + 1 * w.val = w.val by omega]

/-- Where a rank-5 piece's index lies in its block. -/
theorem emb5 (k d : Nat) (hk : k < 3) (hd : d < 4) (inb) (b : Fin 2) (r : Fin 64) (w : Fin 512) :
    (Rect.unit (s := S2x3x4x64x512) ![0, k, d, 0, 0] S2x1x1x64x512.size inb).emb (ix5 b 0 0 r w : S2x1x1x64x512.Idx)
      = ix5 b ⟨k, hk⟩ ⟨d, hd⟩ r w := by
  funext a; apply Fin.ext; refine (Rect.emb_apply _ _ _).trans ?_
  fin_cases a
  exacts [show 0 + 1 * b.val = b.val by omega, show k + 1 * 0 = k by omega, show d + 1 * 0 = d by omega,
    show 0 + 1 * r.val = r.val by omega, show 0 + 1 * w.val = w.val by omega]

/-- The absolute value at an index. -/
theorem absf_at {s : Shape} (x : FVec Ideal s .f32) (j : s.Idx) : absf x j = max (x j) (-(x j)) := rfl
/-- The conjunction at an index. -/
theorem andi_at {s : Shape} (x y : IVec s 1) (j : s.Idx) : andi x y j = IntOp.andi (x j) (y j) := rfl

variable (arg4 : Memref sig .tc .vmem S2x3x4x64x512 .f32) (harg4 : arg4.IsWhole)
  (arg5 : Memref sig .tc .vmem S2x4x64x512 .f32) (harg5 : arg5.IsWhole)

set_option maxHeartbeats 4000000 in
/-- Each of the four stores of responses writes the responses of its depth. -/
theorem pieces_y (p) (hp : p ∈ (kernelRun0_A (F := Ideal) c i arg1 harg1 arg2 harg2 arg3 harg3 arg4 harg4 arg5 harg5 x0 x1 x2).2.1)
    (j) : p.2 j = (arrs c i arg1 harg1 arg2 harg2 arg3 harg3 x0 x1 x2).y (p.1.emb j) := by
  unfold kernelRun0_A at hp
  simp only [List.mem_cons, List.mem_nil_iff, or_false] at hp
  rcases hp with rfl | rfl | rfl | rfl <;>
  · obtain ⟨b, r, w, rfl⟩ := at4 j
    refine Eq.trans ?_ (congrArg (Arrs.y _) (emb4 _ (by decide) (by decide) b r w)).symm
    dsimp only
    simp only [cast4,
    kernelRun0_A.sl.r_13, kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21, kernelRun0_A.sl.r_22,
    kernelRun0_A.sl.r_23, kernelRun0_A.sl.r_24, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32,
    kernelRun0_A.sl.r_34, kernelRun0_A.sl.r_35, kernelRun0_A.sl.r_36, kernelRun0_A.sl.r_37, kernelRun0_A.sl.r_38,
    kernelRun0_A.sl.r_39, kernelRun0_A.sl.r_40, kernelRun0_A.sl.r_41, kernelRun0_A.sl.r_42, kernelRun0_A.sl.r_43,
    kernelRun0_A.sl.r_44, kernelRun0_A.sl.r_45, kernelRun0_A.sl.r_46, kernelRun0_A.sl.r_47, kernelRun0_A.sl.r_48,
    kernelRun0_A.sl.r_49, kernelRun0_A.sl.r_50, kernelRun0_A.sl.r_51, kernelRun0_A.sl.r_52, kernelRun0_A.sl.r_53,
    kernelRun0_A.sl.r_54, kernelRun0_A.sl.r_55, kernelRun0_A.sl.r_56, kernelRun0_A.sl.r_57, kernelRun0_A.sl.r_58,
    kernelRun0_A.sl.r_59, kernelRun0_A.sl.r_60, kernelRun0_A.sl.r_61, kernelRun0_A.sl.r_62, kernelRun0_A.sl.r_63,
    kernelRun0_A.sl.r_64, kernelRun0_A.sl.r_65, kernelRun0_A.sl.r_66, kernelRun0_A.sl.r_67, kernelRun0_A.sl.r_68,
    kernelRun0_A.sl.r_69, kernelRun0_A.sl.r_70, kernelRun0_A.sl.r_71, kernelRun0_A.sl.r_72, kernelRun0_A.sl.r_73,
    kernelRun0_A.sl.r_74, kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82, kernelRun0_A.sl.r_83,
    kernelRun0_A.sl.r_84, kernelRun0_A.sl.r_85, kernelRun0_A.sl.r_86, kernelRun0_A.sl.r_87, kernelRun0_A.sl.r_88,
    kernelRun0_A.sl.r_89, kernelRun0_A.sl.r_90, kernelRun0_A.sl.r_91, kernelRun0_A.sl.r_92, kernelRun0_A.sl.r_93,
    kernelRun0_A.sl.r_94]
    simp only [cast4,
    k0_pay1, k0_pay2, k0_pay3, k0_pay4, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154,
    k0_pay155,
      addf_apply, mulf_apply, subf_apply, divf_apply, maximumf_apply, select_apply, cmpf_apply, broadcast_apply, absf_at, andi_at,
      plane0, plane1, plane2, plane3]
    rfl

set_option maxHeartbeats 4000000 in
/-- Each of the twelve stores of coordinates writes the coordinates of its axis and depth. -/
theorem pieces_coords (p) (hp : p ∈ (kernelRun0_A (F := Ideal) c i arg1 harg1 arg2 harg2 arg3 harg3 arg4 harg4 arg5 harg5 x0 x1 x2).1)
    (j) : p.2 j = (arrs c i arg1 harg1 arg2 harg2 arg3 harg3 x0 x1 x2).coords (kernelRun0_A.sl.r_12 i) k0_pay20 (p.1.emb j) := by
  unfold kernelRun0_A at hp
  simp only [List.mem_cons, List.mem_nil_iff, or_false] at hp
  rcases hp with rfl | rfl | rfl | rfl | rfl | rfl | rfl | rfl | rfl | rfl | rfl | rfl <;>
  · obtain ⟨b, r, w, rfl⟩ := at5 j
    refine Eq.trans ?_ (congrArg (Arrs.coords _ _ _) (emb5 _ _ (by decide) (by decide) (by decide) b r w)).symm
    dsimp only
    simp only [cast5,
    kernelRun0_A.sl.r_13, kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21, kernelRun0_A.sl.r_22,
    kernelRun0_A.sl.r_23, kernelRun0_A.sl.r_24, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32,
    kernelRun0_A.sl.r_34, kernelRun0_A.sl.r_35, kernelRun0_A.sl.r_36, kernelRun0_A.sl.r_37, kernelRun0_A.sl.r_38,
    kernelRun0_A.sl.r_39, kernelRun0_A.sl.r_40, kernelRun0_A.sl.r_41, kernelRun0_A.sl.r_42, kernelRun0_A.sl.r_43,
    kernelRun0_A.sl.r_44, kernelRun0_A.sl.r_45, kernelRun0_A.sl.r_46, kernelRun0_A.sl.r_47, kernelRun0_A.sl.r_48,
    kernelRun0_A.sl.r_49, kernelRun0_A.sl.r_50, kernelRun0_A.sl.r_51, kernelRun0_A.sl.r_52, kernelRun0_A.sl.r_53,
    kernelRun0_A.sl.r_54, kernelRun0_A.sl.r_55, kernelRun0_A.sl.r_56, kernelRun0_A.sl.r_57, kernelRun0_A.sl.r_58,
    kernelRun0_A.sl.r_59, kernelRun0_A.sl.r_60, kernelRun0_A.sl.r_61, kernelRun0_A.sl.r_62, kernelRun0_A.sl.r_63,
    kernelRun0_A.sl.r_64, kernelRun0_A.sl.r_65, kernelRun0_A.sl.r_66, kernelRun0_A.sl.r_67, kernelRun0_A.sl.r_68,
    kernelRun0_A.sl.r_69, kernelRun0_A.sl.r_70, kernelRun0_A.sl.r_71, kernelRun0_A.sl.r_72, kernelRun0_A.sl.r_73,
    kernelRun0_A.sl.r_74, kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82, kernelRun0_A.sl.r_83,
    kernelRun0_A.sl.r_84, kernelRun0_A.sl.r_85, kernelRun0_A.sl.r_86, kernelRun0_A.sl.r_87, kernelRun0_A.sl.r_88,
    kernelRun0_A.sl.r_89, kernelRun0_A.sl.r_90, kernelRun0_A.sl.r_91, kernelRun0_A.sl.r_92, kernelRun0_A.sl.r_93,
    kernelRun0_A.sl.r_94]
    simp only [cast5,
    k0_pay1, k0_pay2, k0_pay3, k0_pay4, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154,
    k0_pay155,
      addf_apply, mulf_apply, subf_apply, divf_apply, maximumf_apply, select_apply, cmpf_apply, broadcast_apply, absf_at, andi_at,
      plane0, plane1, plane2, plane3]
    rfl

/-- The block of responses that a grid step leaves. -/
theorem out_y : out0_A_4 (F := Ideal) c i arg1 harg1 arg2 harg2 arg3 harg3 arg4 harg4 arg5 harg5 x0 x1 x2
    = (arrs c i arg1 harg1 arg2 harg2 arg3 harg3 x0 x1 x2).y := by
  unfold out0_A_4
  rw [View.read_writes_junk_eq_canon]
  funext j
  exact View.canon_apply_of_pieces _ _ (pieces_y c i arg1 harg1 arg2 harg2 arg3 harg3 x0 x1 x2 arg4 harg4 arg5 harg5) j
    (cover0_A_4 c i arg1 harg1 arg2 harg2 arg3 harg3 arg4 harg4 arg5 harg5 x0 x1 x2 j)

/-- The block of coordinates that a grid step leaves. -/
theorem out_coords : out0_A_3 (F := Ideal) c i arg1 harg1 arg2 harg2 arg3 harg3 arg4 harg4 arg5 harg5 x0 x1 x2
    = (arrs c i arg1 harg1 arg2 harg2 arg3 harg3 x0 x1 x2).coords (kernelRun0_A.sl.r_12 i) k0_pay20 := by
  unfold out0_A_3
  rw [View.read_writes_junk_eq_canon]
  funext j
  exact View.canon_apply_of_pieces _ _ (pieces_coords c i arg1 harg1 arg2 harg2 arg3 harg3 x0 x1 x2 arg4 harg4 arg5 harg5) j
    (cover0_A_3 c i arg1 harg1 arg2 harg2 arg3 harg3 arg4 harg4 arg5 harg5 x0 x1 x2 j)

end Cert.Stencil
-- ==== Proof.Block.lean ====
/- The arrays that the kernel prepares from a block of rows, the row before it and the row after it, read at an index. -/
module

public import proofs.«01_k».proof.Proof.Planes

@[expose] public section

namespace Cert.Stencil

open Idealize.ShloMosaic Idealize.ShloMosaic.ValueIdx Cert.KernelIdeal Cert.KernelIdeal.Gen

variable (G : Fin 2 → Fin 4 → Fin 512 → Fin 512 → EReal) (i : Fin 8)
  (v1 : Vec Ideal S2x4x64x512 .f32) (v6 v11 : Vec Ideal S2x4x1x512 .f32)

/-- The block holds rows `64 i` to `64 i + 63` of `G`, and the two single rows are their neighbours, clamped to the volume. -/
structure Reads : Prop where
  mid : ∀ b d r w, v1 (ix4 b d r w) = G b d (row i r) w
  top : ∀ b d w, v6 (ix4 b d 0 w) = G b d (cl (row i 0) 0) w
  bot : ∀ b d w, v11 (ix4 b d 0 w) = G b d (cl (row i 63) 2) w

variable {G i v1 v6 v11} (h : Reads G i v1 v6 v11)
include h

/-- The block read at a voxel. -/
theorem Reads.c_at (b d r w) : k0_pay5 (F := Ideal) v1 (ix4 b d r w) = G b d (row i r) w := by
  unfold k0_pay5; rw [shapeCast_self]; exact h.mid b d r w
/-- The row above the block read at a column. -/
theorem Reads.top_at (b d w) : k0_pay6 (F := Ideal) v6 (ix4 b d 0 w) = G b d (cl (row i 0) 0) w := by
  unfold k0_pay6; rw [shapeCast_self]; exact h.top b d w
/-- The row below the block read at a column. -/
theorem Reads.bot_at (b d w) : k0_pay7 (F := Ideal) v11 (ix4 b d 0 w) = G b d (cl (row i 63) 2) w := by
  unfold k0_pay7; rw [shapeCast_self]; exact h.bot b d w

/-- The next rows. -/
theorem Reads.chp_at (b d r w) : k0_pay8 (F := Ideal) v1 v11 (ix4 b d r w) = G b d (cl (row i r) 2) w :=
  next_row G i _ _ h.c_at h.bot_at (by decide) (by decide) b d r w
/-- The previous rows. -/
theorem Reads.chm_at (b d r w) : k0_pay9 (F := Ideal) v1 v6 (ix4 b d r w) = G b d (cl (row i r) 0) w :=
  prev_row G i _ _ h.c_at h.top_at (by decide) (by decide) b d r w
/-- The next columns. -/
theorem Reads.cwp_at (b d r w) : k0_pay10 (F := Ideal) v1 (ix4 b d r w) = G b d (row i r) (cl w 2) :=
  (next_col _ _ (by decide) (by decide) b d r w).trans (h.c_at ..)
/-- The previous columns. -/
theorem Reads.cwm_at (b d r w) : k0_pay11 (F := Ideal) v1 (ix4 b d r w) = G b d (row i r) (cl w 0) :=
  (prev_col _ _ (by decide) (by decide) b d r w).trans (h.c_at ..)
/-- The column differences. -/
theorem Reads.k_at (b d r w) : k0_pay12 (F := Ideal) v1 (ix4 b d r w) = G b d (row i r) (cl w 0) - G b d (row i r) (cl w 2) := by
  unfold k0_pay12; rw [subf_apply, h.cwm_at, h.cwp_at]
/-- The row differences. -/
theorem Reads.l_at (b d r w) :
    k0_pay13 (F := Ideal) v1 v6 v11 (ix4 b d r w) = G b d (cl (row i r) 2) w - G b d (cl (row i r) 0) w := by
  unfold k0_pay13; rw [subf_apply, h.chp_at, h.chm_at]
/-- The column differences of the next rows. -/
theorem Reads.khp_at (b d r w) : k0_pay17 (F := Ideal) (k0_pay14 v11) (k0_pay16 v1) (ix4 b d r w)
    = G b d (cl (row i r) 2) (cl w 0) - G b d (cl (row i r) 2) (cl w 2) := by
  refine next_row (fun b d r w => G b d r (cl w 0) - G b d r (cl w 2)) i _ _ h.k_at (fun b d w => ?_) (by decide) (by decide) b d r w
  exact congrArg₂ (· - ·) ((prev_col (n := 1) _ _ _ (by decide) b d 0 w).trans (h.bot_at b d _)) ((next_col (n := 1) _ _ _ (by decide) b d 0 w).trans (h.bot_at b d _))
/-- The column differences of the previous rows. -/
theorem Reads.khm_at (b d r w) : k0_pay15 (F := Ideal) v1 v6 (ix4 b d r w)
    = G b d (cl (row i r) 0) (cl w 0) - G b d (cl (row i r) 0) (cl w 2) := by
  refine prev_row (fun b d r w => G b d r (cl w 0) - G b d r (cl w 2)) i _ _ h.k_at (fun b d w => ?_) (by decide) (by decide) b d r w
  exact congrArg₂ (· - ·) ((prev_col (n := 1) _ _ _ (by decide) b d 0 w).trans (h.top_at b d _)) ((next_col (n := 1) _ _ _ (by decide) b d 0 w).trans (h.top_at b d _))
/-- The largest value of each 3 × 3 neighbourhood in a plane. -/
theorem Reads.mh_at (b d r w) : k0_pay18 (F := Ideal) (k0_pay5 v1) (k0_pay8 v1 v11) (k0_pay9 v1 v6) (ix4 b d r w)
    = max9 fun j k => G b d (cl (row i r) j) (cl w k) := by
  have hm (w) : maximumf (maximumf (k0_pay9 (F := Ideal) v1 v6) (k0_pay5 v1)) (k0_pay8 v1 v11) (ix4 b d r w)
      = max3 fun j => G b d (cl (row i r) j) w := by
    rw [maximumf_apply, maximumf_apply, h.chm_at, h.c_at, h.chp_at]
    show _ = max (max _ (G b d (cl (row i r) 1) w)) _
    rw [cl_one]
  unfold k0_pay18
  refine (congrArg₂ max (congrArg₂ max ((prev_col _ _ (by decide) (by decide) b d r w).trans (hm _)) (hm w)) ((next_col _ _ (by decide) (by decide) b d r w).trans (hm _))).trans ?_
  show _ = max (max _ (max3 fun j => G b d (cl (row i r) j) (cl w 1))) _
  rw [cl_one]

end Cert.Stencil

namespace Cert.Stencil

open Idealize.ShloMosaic Idealize.ShloMosaic.ValueIdx Cert.KernelIdeal Cert.KernelIdeal.Gen

/-- A load of a rectangle of unit stride, read at an index. -/
theorem load_at {s : Shape} (arg : Memref sig .tc .vmem s .f32) (h : arg.IsWhole) (x : Vec Ideal s .f32)
    (off size : Fin s.rank → Nat) (inb) (j : (Rect.unit off size inb).shape.Idx) (k : s.Idx) (hk : ∀ a, (k a : Nat) = off a + j a) :
    View.readAt (Elt Ideal) arg.view (Rect.unit off size inb).toLoadRect (h.unread x) j = x k := by
  rw [View.readAt_eq_ld, h.read_unread]
  refine congrArg x (funext fun a => Fin.ext ?_)
  show off a + 1 * (j a).val = (k a).val
  rw [Nat.one_mul, hk]

/-- The row of the block before, and of the block after, that a step reads. -/
def topRow (i : Fin 8) : Fin 8 := if i.val = 0 then 0 else 7
/-- The row of the eight-row block below that lies next to a step's rows. -/
def botRow (i : Fin 8) : Fin 8 := if i.val = 7 then 7 else 0

/-- Where a step reads the row above its own. -/
theorem off_top : ∀ i : grid0.Coords, k0_off1 i 0#32 0#32 7#32 = ![0, 0, (topRow (i 0)).val, 0] := by decide +kernel
/-- Where a step reads the row below its own. -/
theorem off_bot : ∀ i : grid0.Coords, k0_off1 i 7#32 7#32 0#32 = ![0, 0, (botRow (i 0)).val, 0] := by decide +kernel

variable (c : Dev nD) (i : grid0.Coords) (arg1 : Memref sig .tc .vmem S2x4x64x512 .f32) (harg1 : arg1.IsWhole)
  (arg2 : Memref sig .tc .vmem S2x4x8x512 .f32) (harg2 : arg2.IsWhole)
  (arg3 : Memref sig .tc .vmem S2x4x8x512 .f32) (harg3 : arg3.IsWhole)
  (x0 : Vec Ideal S2x4x64x512 .f32) (x1 : Vec Ideal S2x4x8x512 .f32) (x2 : Vec Ideal S2x4x8x512 .f32)
  (G : Fin 2 → Fin 4 → Fin 512 → Fin 512 → EReal)

/-- What a step loads, from what its three blocks hold. -/
theorem loads (h0 : ∀ b d r w, x0 (ix4 b d r w) = G b d (row (i 0) r) w)
    (h1 : ∀ b d w, x1 (ix4 b d (topRow (i 0)) w) = G b d (cl (row (i 0) 0) 0) w)
    (h2 : ∀ b d w, x2 (ix4 b d (botRow (i 0)) w) = G b d (cl (row (i 0) 63) 2) w) :
    Reads G (i 0)
      (View.readAt (Elt Ideal) arg1.view
        (Rect.unit ![0, 0, 0, 0] S2x4x64x512.size inb_S2x4x64x512_S2x4x64x512_0_0_0_0).toLoadRect (harg1.unread x0))
      (View.readAt (Elt Ideal) arg2.view (Rect.unit (s := S2x4x8x512) (k0_off1 i 0#32 0#32 7#32) S2x4x1x512.size (k0_off1_inb i 0)).toLoadRect (harg2.unread x1))
      (View.readAt (Elt Ideal) arg3.view (Rect.unit (s := S2x4x8x512) (k0_off1 i 7#32 7#32 0#32) S2x4x1x512.size (k0_off1_inb i 1)).toLoadRect (harg3.unread x2)) where
  mid b d r w := (load_at arg1 harg1 x0 _ _ _ (ix4 b d r w) (ix4 b d r w)
    (fun a => by fin_cases a <;> exact (Nat.zero_add _).symm)).trans (h0 b d r w)
  top b d w := (load_at arg2 harg2 x1 _ _ _ (ix4 b d 0 w) (ix4 b d (topRow (i 0)) w)
    (fun a => by
      refine Eq.trans ?_ (congrArg (· + _) (congrFun (off_top i) a).symm)
      fin_cases a <;> first | exact (Nat.zero_add _).symm | rfl)).trans (h1 b d w)
  bot b d w := (load_at arg3 harg3 x2 _ _ _ (ix4 b d 0 w) (ix4 b d (botRow (i 0)) w)
    (fun a => by
      refine Eq.trans ?_ (congrArg (· + _) (congrFun (off_bot i) a).symm)
      fin_cases a <;> first | exact (Nat.zero_add _).symm | rfl)).trans (h2 b d w)

/-- The numbers that a step reads at a voxel are those of the voxel's neighbourhood. -/
theorem arrs_cell (h0 : ∀ b d r w, x0 (ix4 b d r w) = G b d (row (i 0) r) w)
    (h1 : ∀ b d w, x1 (ix4 b d (topRow (i 0)) w) = G b d (cl (row (i 0) 0) 0) w)
    (h2 : ∀ b d w, x2 (ix4 b d (botRow (i 0)) w) = G b d (cl (row (i 0) 63) 2) w)
    (b : Fin 2) (d : Fin 4) (r : Fin 64) (w : Fin 512) :
    (arrs c i arg1 harg1 arg2 harg2 arg3 harg3 x0 x1 x2).cell b r w (cl d 0) d (cl d 2)
      = cellOf fun z j k => G b (cl d z) (cl (row (i 0) r) j) (cl w k) := by
  have h := loads i arg1 harg1 arg2 harg2 arg3 harg3 x0 x1 x2 G h0 h1 h2
  unfold cellOf Arrs.cell arrs
  simp only [Cell.mk.injEq, cl_one]
  exact ⟨h.c_at .., h.cwm_at .., h.cwp_at .., h.chm_at .., h.chp_at .., h.c_at .., h.c_at .., h.khm_at .., h.khp_at .., h.l_at ..,
    h.l_at .., h.k_at .., h.k_at .., h.k_at .., h.l_at .., h.mh_at .., h.mh_at .., h.mh_at ..⟩

end Cert.Stencil
-- ==== Proof.Coord.lean ====
/- The coordinates that both programs return, as real numbers. -/
module

public import proofs.«01_k».proof.Proof.Spec
public import Idealize.ShloMosaic.Lib.ValueIdx

@[expose] public section

namespace Cert.Stencil

open Idealize.ShloMosaic

/-- A small number read as a signed word is itself. -/
theorem toInt_small (n : Nat) (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- A small number made a float is itself, in exact arithmetic. -/
theorem sitofp_small (n : Nat) (h : n < 2147483648) : FloatOps.sitofp (F := Ideal) .f32 (BitVec.ofNat 32 n) = ((n : ℝ) : EReal) := by
  show (((BitVec.ofNat 32 n).toInt : ℝ) : EReal) = _
  rw [toInt_small n h]; norm_cast

/-- The coordinates of a voxel with neighbourhood `N`: its depth, column and row, each moved by its part of the step. -/
noncomputable def coord (N : Nbhd) (d : Fin 4) (h w : Fin 512) (k : Fin 3) : ℝ :=
  (![(d.val : ℝ) + dx2 N, (w.val : ℝ) + dx0 N, (h.val : ℝ) + dx1 N] : Fin 3 → ℝ) k

end Cert.Stencil
-- ==== Proof.Final.lean ====
/- What the kernel leaves in its results. -/
module

public import proofs.«01_k».proof.Proof.Block
public import proofs.«01_k».proof.Proof.Coord
public import Idealize.ShloMosaic.Lib.Claim

@[expose] public section

namespace Cert.Stencil

open Idealize.ShloMosaic Idealize.ShloMosaic.ValueIdx Idealize.ShloMosaic.TcCoe Cert.KernelIdeal Cert.KernelIdeal.Gen

/-! ### Row and column numbers -/

/-- The column numbers. -/
theorem widx_at (b : Fin 2) (r : Fin 64) (w : Fin 512) : k0_pay20 (F := Ideal) (ix3 b r w) = ((w.val : ℝ) : EReal) := by
  unfold k0_pay20
  rw [sitofp_apply, iota_single_apply]
  exact sitofp_small w.val (by have := w.isLt; omega)

/-- The row numbers. -/
theorem hidx_at (i : grid0.Coords) (b : Fin 2) (r : Fin 64) (w : Fin 512) :
    kernelRun0_A.sl.r_12 (F := Ideal) i (ix3 b r w) = (((row (i 0) r).val : ℝ) : EReal) := by
  have hi : (i 0).val < 8 := (i 0).isLt
  have e : kernelRun0_A.sl.v0 i + BitVec.ofNat 32 r.val = BitVec.ofNat 32 (row (i 0) r).val := by
    show BitVec.ofNat 32 (i 0).val * 64#32 + BitVec.ofNat 32 r.val = BitVec.ofNat 32 (64 * (i 0).val + r.val)
    rw [BitVec.ofNat_add, BitVec.ofNat_mul, BitVec.mul_comm]
  refine Eq.trans ?_ (sitofp_small (row (i 0) r).val (by have := (row (i 0) r).isLt; omega))
  rw [← e]
  unfold kernelRun0_A.sl.r_12 k0_pay19
  rw [sitofp_apply]
  refine congrArg (FloatOps.sitofp (F := Ideal) .f32) ?_
  refine congrArg (kernelRun0_A.sl.v0 i + ·) ?_
  exact iota_single_apply ..

/-- The depth numbers. -/
theorem depth_eq (d : Fin 4) : Ideal.ofBits .f32 (depthBits d) = ((d.val : ℝ) : EReal) := by
  fin_cases d
  · exact bits_zero.trans (by simp)
  · exact bits_one.trans (by simp)
  · exact bits_two.trans (by simp)
  · exact bits_three.trans (by simp)

/-! ### The blocks -/

variable (m : (ℓ : Loc nD τ sig) → Buf (Elt Ideal) ℓ) (c : Dev nD)

/-- The volume as the kernel reads it. -/
noncomputable def vol (b : Fin 2) (d : Fin 4) (h w : Fin 512) : EReal := m ((c : Thread nD τ).loc main_arg0) (ix5 b 0 d h w : S2x1x4x512x512.Idx)

/-- The array that the launch reads holds the volume. -/
theorem entry (b d h w) : V m c main_v0 (ix4 b d h w : S2x4x512x512.Idx) = vol m c b d h w := by
  entry_read
  refine shapeCast_apply _ _ _ (ix5 b 0 d h w : S2x1x4x512x512.Idx) ?_
  refine (Shape.rowMajor_val_five _).trans (Eq.trans ?_ (Shape.rowMajor_val_four _).symm)
  show (((b.val * 1 + 0) * 4 + d.val) * 512 + h.val) * 512 + w.val = ((b.val * 4 + d.val) * 512 + h.val) * 512 + w.val
  omega

/-- The step number. -/
abbrev st (t : Fin cfg0.N) : Fin 8 := grid0.coords t 0

/-- The block of 64 rows that a step reads. -/
theorem idx0 : ∀ t : Fin cfg0.N, win0_0.index t (0 : Fin 4) = 0 ∧ win0_0.index t (1 : Fin 4) = 0 ∧ win0_0.index t (2 : Fin 4) = (st t).val
    ∧ win0_0.index t (3 : Fin 4) = 0 :=
  (by decide +kernel : ∀ t : Fin grid0.N, _)
/-- The eight-row block that holds the row above a step's rows. -/
theorem idx1 : ∀ t : Fin cfg0.N, win0_1.index t (0 : Fin 4) = 0 ∧ win0_1.index t (1 : Fin 4) = 0
    ∧ win0_1.index t (2 : Fin 4) * 8 + (topRow (st t)).val = (cl (row (st t) 0) 0).val ∧ win0_1.index t (3 : Fin 4) = 0 :=
  (by decide +kernel : ∀ t : Fin grid0.N, _)
/-- The eight-row block that holds the row below a step's rows. -/
theorem idx2 : ∀ t : Fin cfg0.N, win0_2.index t (0 : Fin 4) = 0 ∧ win0_2.index t (1 : Fin 4) = 0
    ∧ win0_2.index t (2 : Fin 4) * 8 + (botRow (st t)).val = (cl (row (st t) 63) 2).val ∧ win0_2.index t (3 : Fin 4) = 0 :=
  (by decide +kernel : ∀ t : Fin grid0.N, _)
/-- The block of coordinates that a step writes. -/
theorem idx3 : ∀ t : Fin cfg0.N, win0_3.index t (0 : Fin 5) = 0 ∧ win0_3.index t (1 : Fin 5) = 0 ∧ win0_3.index t (2 : Fin 5) = 0
    ∧ win0_3.index t (3 : Fin 5) = (st t).val ∧ win0_3.index t (4 : Fin 5) = 0 :=
  (by decide +kernel : ∀ t : Fin grid0.N, _)
/-- The block of responses that a step writes. -/
theorem idx4 : ∀ t : Fin cfg0.N, win0_4.index t (0 : Fin 4) = 0 ∧ win0_4.index t (1 : Fin 4) = 0 ∧ win0_4.index t (2 : Fin 4) = (st t).val
    ∧ win0_4.index t (3 : Fin 4) = 0 :=
  (by decide +kernel : ∀ t : Fin grid0.N, _)

/-- The step's own block: 64 rows of the volume. -/
theorem blk0 (t : Fin cfg0.N) (b : Fin 2) (d : Fin 4) (r : Fin 64) (w : Fin 512) :
    iblk m c 0 t (ix4 b d r w : S2x4x64x512.Idx) = vol m c b d (row (st t) r) w := by
  refine Eq.trans ?_ (entry m c b d (row (st t) r) w)
  obtain ⟨e0, e1, e2, e3⟩ := idx0 t
  show V m c main_v0 (((cfg0.win 0).blk t).view.emb (ix4 b d r w : S2x4x64x512.Idx)) = _
  refine congrArg (V m c main_v0) (funext fun a => Fin.ext ?_)
  match a with
  | ⟨0, _⟩ => show win0_0.index t (0 : Fin 4) * 2 + 1 * b.val = b.val; omega
  | ⟨1, _⟩ => show win0_0.index t (1 : Fin 4) * 4 + 1 * d.val = d.val; omega
  | ⟨2, _⟩ => show win0_0.index t (2 : Fin 4) * 64 + 1 * r.val = 64 * (st t).val + r.val; omega
  | ⟨3, _⟩ => show win0_0.index t (3 : Fin 4) * 512 + 1 * w.val = w.val; omega

/-- The row before the block. -/
theorem blk1 (t : Fin cfg0.N) (b : Fin 2) (d : Fin 4) (w : Fin 512) :
    iblk m c 1 t (ix4 b d (topRow (st t)) w : S2x4x8x512.Idx) = vol m c b d (cl (row (st t) 0) 0) w := by
  refine Eq.trans ?_ (entry m c b d (cl (row (st t) 0) 0) w)
  obtain ⟨e0, e1, e2, e3⟩ := idx1 t
  show V m c main_v0 (((cfg0.win 1).blk t).view.emb (ix4 b d (topRow (st t)) w : S2x4x8x512.Idx)) = _
  refine congrArg (V m c main_v0) (funext fun a => Fin.ext ?_)
  match a with
  | ⟨0, _⟩ => show win0_1.index t (0 : Fin 4) * 2 + 1 * b.val = b.val; omega
  | ⟨1, _⟩ => show win0_1.index t (1 : Fin 4) * 4 + 1 * d.val = d.val; omega
  | ⟨2, _⟩ => show win0_1.index t (2 : Fin 4) * 8 + 1 * (topRow (st t)).val = (cl (row (st t) 0) 0).val; omega
  | ⟨3, _⟩ => show win0_1.index t (3 : Fin 4) * 512 + 1 * w.val = w.val; omega

/-- The row after the block. -/
theorem blk2 (t : Fin cfg0.N) (b : Fin 2) (d : Fin 4) (w : Fin 512) :
    iblk m c 2 t (ix4 b d (botRow (st t)) w : S2x4x8x512.Idx) = vol m c b d (cl (row (st t) 63) 2) w := by
  refine Eq.trans ?_ (entry m c b d (cl (row (st t) 63) 2) w)
  obtain ⟨e0, e1, e2, e3⟩ := idx2 t
  show V m c main_v0 (((cfg0.win 2).blk t).view.emb (ix4 b d (botRow (st t)) w : S2x4x8x512.Idx)) = _
  refine congrArg (V m c main_v0) (funext fun a => Fin.ext ?_)
  match a with
  | ⟨0, _⟩ => show win0_2.index t (0 : Fin 4) * 2 + 1 * b.val = b.val; omega
  | ⟨1, _⟩ => show win0_2.index t (1 : Fin 4) * 4 + 1 * d.val = d.val; omega
  | ⟨2, _⟩ => show win0_2.index t (2 : Fin 4) * 8 + 1 * (botRow (st t)).val = (cl (row (st t) 63) 2).val; omega
  | ⟨3, _⟩ => show win0_2.index t (3 : Fin 4) * 512 + 1 * w.val = w.val; omega

/-- Every block of rows has its step. -/
theorem steps : ∀ i : Fin 8, ∃ t : Fin cfg0.N, (st t).val = i.val :=
  (by decide +kernel : ∀ i : Fin 8, ∃ t : Fin grid0.N, (grid0.coords t 0).val = i.val)

/-- Every row lies in a step's block. -/
theorem row_step (h : Fin 512) : ∃ (t : Fin cfg0.N) (r : Fin 64), h = row (st t) r := by
  obtain ⟨t, ht⟩ := steps ⟨h.val / 64, by have := h.isLt; omega⟩
  refine ⟨t, ⟨h.val % 64, by omega⟩, ?_⟩
  have e : (st t).val = h.val / 64 := ht
  apply Fin.ext; show h.val = 64 * (st t).val + h.val % 64; omega

/-! ### The results -/

variable (X : Fin 2 → Fin 4 → Fin 512 → Fin 512 → ℝ) (hX : ∀ b d h w, vol m c b d h w = ((X b d h w : ℝ) : EReal))
include hX

/-- A step's cell at a voxel of a finite volume. -/
theorem cell_at (t : Fin cfg0.N) (b : Fin 2) (d : Fin 4) (r : Fin 64) (w : Fin 512) :
    (arrs c (grid0.coords t) (ms0_0 t) (hs0_0 t) (ms0_1 t) (hs0_1 t) (ms0_2 t) (hs0_2 t) (iblk m c 0 t) (iblk m c 1 t) (iblk m c 2 t)).cell
      b r w (cl d 0) d (cl d 2) = cellR (nb X b d (row (st t) r) w) := by
  refine (arrs_cell c (grid0.coords t) _ _ _ _ _ _ _ _ _ (vol m c) (blk0 m c t) (blk1 m c t) (blk2 m c t) b d r w).trans ?_
  simp only [hX]; rfl

/-- The kernel's responses. -/
theorem kernel_y (b d h w) : (dats m 0 c).arrAt 4 cfg0.N (ix4 b d h w : S2x4x512x512.Idx) = ((y (nb X b d h w) : ℝ) : EReal) := by
  obtain ⟨t, r, rfl⟩ := row_step h
  have k := congrFun (Cert.KernelIdeal.Value.blocks4 m c t (flush0_4 t)) (ix4 b d r w : S2x4x64x512.Idx)
  rw [Cert.KernelIdeal.Value.flushed4_A, out_y] at k
  have k' : (dats m 0 c).arrAt 4 cfg0.N (((cfg0.win 4).blk t).view.emb (ix4 b d r w : S2x4x64x512.Idx))
      = ((arrs c (grid0.coords t) (ms0_0 t) (hs0_0 t) (ms0_1 t) (hs0_1 t) (ms0_2 t) (hs0_2 t) (iblk m c 0 t) (iblk m c 1 t)
          (iblk m c 2 t)).cell b r w (cl d 0) d (cl d 2)).y := k
  rw [cell_at m c X hX t b d r w, y_eq] at k'
  refine Eq.trans (congrArg ((dats m 0 c).arrAt 4 cfg0.N) (funext fun a => Fin.ext ?_)) k'
  obtain ⟨e0, e1, e2, e3⟩ := idx4 t
  match a with
  | ⟨0, _⟩ => show b.val = win0_4.index t (0 : Fin 4) * 2 + 1 * b.val; omega
  | ⟨1, _⟩ => show d.val = win0_4.index t (1 : Fin 4) * 4 + 1 * d.val; omega
  | ⟨2, _⟩ => show 64 * (st t).val + r.val = win0_4.index t (2 : Fin 4) * 64 + 1 * r.val; omega
  | ⟨3, _⟩ => show w.val = win0_4.index t (3 : Fin 4) * 512 + 1 * w.val; omega

/-- The kernel's coordinates. -/
theorem kernel_coords (b k d h w) :
    (dats m 0 c).arrAt 3 cfg0.N (ix5 b k d h w : S2x3x4x512x512.Idx) = ((coord (nb X b d h w) d h w k : ℝ) : EReal) := by
  obtain ⟨t, r, rfl⟩ := row_step h
  have e := congrFun (Cert.KernelIdeal.Value.blocks3 m c t (flush0_3 t)) (ix5 b k d r w : S2x3x4x64x512.Idx)
  rw [Cert.KernelIdeal.Value.flushed3_A, out_coords] at e
  have he : (dats m 0 c).arrAt 3 cfg0.N (((cfg0.win 3).blk t).view.emb (ix5 b k d r w : S2x3x4x64x512.Idx))
      = (let q := (arrs c (grid0.coords t) (ms0_0 t) (hs0_0 t) (ms0_1 t) (hs0_1 t) (ms0_2 t) (hs0_2 t) (iblk m c 0 t) (iblk m c 1 t)
            (iblk m c 2 t)).cell b r w (cl d 0) d (cl d 2)
         (![Ideal.ofBits .f32 (depthBits d) + q.dx2, k0_pay20 (F := Ideal) (ix3 b r w) + q.dx0,
            kernelRun0_A.sl.r_12 (F := Ideal) (grid0.coords t) (ix3 b r w) + q.dx1] : Fin 3 → EReal) k) := e
  simp only [cell_at m c X hX t b d r w, dx0_eq, dx1_eq, dx2_eq, widx_at, hidx_at, depth_eq, ← EReal.coe_add] at he
  refine Eq.trans (congrArg ((dats m 0 c).arrAt 3 cfg0.N) (funext fun a => Fin.ext ?_)) (he.trans ?_)
  · obtain ⟨e0, e1, e2, e3, e4⟩ := idx3 t
    match a with
    | ⟨0, _⟩ => show b.val = win0_3.index t (0 : Fin 5) * 2 + 1 * b.val; omega
    | ⟨1, _⟩ => show k.val = win0_3.index t (1 : Fin 5) * 3 + 1 * k.val; omega
    | ⟨2, _⟩ => show d.val = win0_3.index t (2 : Fin 5) * 4 + 1 * d.val; omega
    | ⟨3, _⟩ => show 64 * (st t).val + r.val = win0_3.index t (3 : Fin 5) * 64 + 1 * r.val; omega
    | ⟨4, _⟩ => show w.val = win0_3.index t (4 : Fin 5) * 512 + 1 * w.val; omega
  · fin_cases k <;> rfl

end Cert.Stencil
-- ==== Proof.Pad.lean ====
/- An array grown by one position at each end of an axis, each end repeating the edge, read at an index. -/
module

public import proofs.«01_k».proof.Proof.Spec
public import Idealize.ShloMosaic.Lib.Pipeline.Value
public import Idealize.ShloMosaic.Lib.ValueIdxCore

@[expose] public section

namespace Cert.Stencil

open Idealize.ShloMosaic

variable {α : Type}

/-- The first position, the array and the last position along axis `a`: position `p` holds the array's position `p - 1`,
    kept inside the array. -/
theorem pad_at {S E T : Fin 5 → Nat} {a : Fin 5} (A : (⟨5, S⟩ : Shape).Idx → α) (o0 o1 : Fin 5 → Nat)
    (h0 : (⟨5, S⟩ : Shape).Slices o0 ⟨5, E⟩) (h1 : (⟨5, S⟩ : Shape).Slices o1 ⟨5, E⟩)
    (hc : Shape.Concatenates [⟨5, E⟩, ⟨5, S⟩, ⟨5, E⟩] ⟨5, T⟩ a) (ho0 : ∀ b, o0 b = 0) (ho1 : ∀ b, o1 b = if b = a then S a - 1 else 0)
    (hE : ∀ b, E b = if b = a then 1 else T b) (hS : ∀ b, T b = if b = a then S a + 2 else S b) (hp : 0 < S a)
    (j : (⟨5, T⟩ : Shape).Idx) (k : (⟨5, S⟩ : Shape).Idx)
    (hk : ∀ b, (k b).val = if b = a then min ((j a).val - 1) (S a - 1) else (j b).val) :
    concatenate ⟨5, T⟩ a [⟨⟨5, E⟩, extractStridedSlice ⟨5, E⟩ o0 A h0⟩, ⟨⟨5, S⟩, A⟩, ⟨⟨5, E⟩, extractStridedSlice ⟨5, E⟩ o1 A h1⟩] hc j
      = A k := by
  have hEa : E a = 1 := by rw [hE, if_pos rfl]
  have hTa : T a = S a + 2 := by rw [hS, if_pos rfl]
  have hja : (j a).val < S a + 2 := by rw [← hTa]; exact (j a).isLt
  have hka := hk a
  rw [if_pos rfl] at hka
  let e : (⟨5, E⟩ : Shape).Idx := fun b => ⟨if b = a then 0 else (j b).val, by
    show _ < E b
    rw [hE]; split
    · exact Nat.one_pos
    · exact (j b).isLt⟩
  have he (b) : (e b).val = if b = a then 0 else (j b).val := rfl
  let xs : List ((s : Shape) × (s.Idx → α)) :=
    [⟨⟨5, E⟩, extractStridedSlice ⟨5, E⟩ o0 A h0⟩, ⟨⟨5, S⟩, A⟩, ⟨⟨5, E⟩, extractStridedSlice ⟨5, E⟩ o1 A h1⟩]
  by_cases c0 : (j a).val = 0
  · refine (concatenate_apply_piece (t := ⟨5, T⟩) a xs hc j 0 (by simp [xs]) _ _ rfl rfl 0 rfl e (fun b hb => ?_) ?_).trans ?_
    · rw [he, if_neg (show b ≠ a from hb)]; rfl
    · show 0 + (e a).val = _
      rw [he, if_pos rfl, c0]
    · refine extractStridedSlice_apply _ _ _ _ _ (fun b => ?_)
      rw [hk, ho0]
      show _ = 0 + (e b).val
      rw [he]
      by_cases hb : b = a
      · rw [if_pos hb, if_pos hb]; omega
      · rw [if_neg hb, if_neg hb]; omega
  · by_cases c1 : (j a).val ≤ S a
    · refine (concatenate_apply_piece (t := ⟨5, T⟩) a xs hc j 1 (by simp [xs]) _ _ rfl rfl 1 (by simp [xs, hEa]) k (fun b hb => ?_) ?_)
      · rw [hk, if_neg (show b ≠ a from hb)]; rfl
      · show 1 + (k a).val = _
        omega
    · refine (concatenate_apply_piece (t := ⟨5, T⟩) a xs hc j 2 (by simp [xs]) _ _ rfl rfl (1 + S a) (by simp [xs, hEa]) e (fun b hb => ?_) ?_).trans ?_
      · rw [he, if_neg (show b ≠ a from hb)]; rfl
      · show 1 + S a + (e a).val = _
        rw [he, if_pos rfl]; omega
      · refine extractStridedSlice_apply _ _ _ _ _ (fun b => ?_)
        rw [hk, ho1]
        show _ = _ + (e b).val
        rw [he]
        by_cases hb : b = a
        · rw [if_pos hb, if_pos hb, if_pos hb]; omega
        · rw [if_neg hb, if_neg hb, if_neg hb]; omega

end Cert.Stencil
-- ==== Proof.Taps.lean ====
/- The reference's padded volume, read at each of the 27 positions around a voxel. -/
module

public import proofs.«01_k».proof.Proof.Pad
public import proofs.«01_k».proof.Proof.Gen.ReferenceIdeal.Read
public import Idealize.ShloMosaic.Lib.ValueIdx

@[expose] public section

namespace Cert.Stencil

open Idealize.ShloMosaic Idealize.ShloMosaic.ValueIdx Cert.ReferenceIdeal Cert.ReferenceIdeal.Gen Cert.ReferenceIdeal.Read

variable (x : (⟨S2x1x4x512x512, .f32⟩ : BufTy).Contents (Elt Ideal)) (X : Fin 2 → Fin 4 → Fin 512 → Fin 512 → ℝ)
  (hx : ∀ b d h w, x (ix5 b 0 d h w : S2x1x4x512x512.Idx) = ((X b d h w : ℝ) : EReal))

/-- Position `p` of an axis grown by one at each end. -/
def un {n : Nat} (hn : 0 < n) (p : Fin (n + 2)) : Fin n := ⟨min (p.val - 1) (n - 1), by omega⟩

/-- The padded volume. -/
theorem pad_vol (b : Fin 2) (z : Fin 6) (j k : Fin 514) :
    val_main_v8 (F := Ideal) x (ix5 b 0 z j k : S2x1x6x514x514.Idx)
      = x (ix5 b 0 (un (n := 4) (by decide) z) (un (n := 512) (by decide) j) (un (n := 512) (by decide) k) : S2x1x4x512x512.Idx) := by
  refine (pad_at (a := 4) (val_main_v5 (F := Ideal) x) _ _ _ _ (by decide) (by decide) (by decide) (by decide) (by decide) (by decide) _
    (ix5 b 0 z j (un (n := 512) (by decide) k) : S2x1x6x514x512.Idx) (fun a => by fin_cases a <;> rfl)).trans ?_
  refine (pad_at (a := 3) (val_main_v2 (F := Ideal) x) _ _ _ _ (by decide) (by decide) (by decide) (by decide) (by decide) (by decide) _
    (ix5 b 0 z (un (n := 512) (by decide) j) (un (n := 512) (by decide) k) : S2x1x6x512x512.Idx) (fun a => by fin_cases a <;> rfl)).trans ?_
  exact pad_at (a := 2) x _ _ _ _ (by decide) (by decide) (by decide) (by decide) (by decide) (by decide) _ _
    (fun a => by fin_cases a <;> rfl)

include hx

/-- The voxel's neighbour at each offset. -/
theorem tap (z j k : Fin 3) (o : Fin 5 → Nat) (ho : o = ![0, 0, z.val, j.val, k.val])
    (hs : S2x1x6x514x514.Slices o S2x1x4x512x512) (b d h w) :
    extractStridedSlice S2x1x4x512x512 o (val_main_v8 (F := Ideal) x) hs (ix5 b 0 d h w : S2x1x4x512x512.Idx)
      = ((nb X b d h w z j k : ℝ) : EReal) := by
  subst ho
  have hz := z.isLt; have hj := j.isLt; have hk := k.isLt; have hd := d.isLt; have hh := h.isLt; have hw := w.isLt
  refine (extractStridedSlice_apply _ _ _ _ (ix5 b 0 ⟨z.val + d.val, by omega⟩ ⟨j.val + h.val, by omega⟩ ⟨k.val + w.val, by omega⟩ :
    S2x1x6x514x514.Idx) (fun a => ?_)).trans ?_
  · fin_cases a <;> first | exact (Nat.zero_add _).symm | rfl
  · rw [pad_vol]
    refine (hx _ _ _ _).trans ?_
    show ((X _ _ _ _ : ℝ) : EReal) = ((X b (cl d z) (cl h j) (cl w k) : ℝ) : EReal)
    have e {n : Nat} (hn : 0 < n) (p : Fin n) (q : Fin 3) (hq : q.val + p.val < n + 2) : un hn ⟨q.val + p.val, hq⟩ = cl p q :=
      Fin.ext (by show min (q.val + p.val - 1) (n - 1) = min (p.val + q.val - 1) (n - 1); rw [Nat.add_comm])
    rw [e, e, e]

end Cert.Stencil
-- ==== Proof.Window.lean ====
/- The reference's largest value of each 3 × 3 × 3 neighbourhood: a voxel has it just when it is a peak. -/
module

public import proofs.«01_k».proof.Proof.Cell
public import proofs.«01_k».proof.Proof.Gen.ReferenceIdeal.Read
public import Idealize.ShloMosaic.Lib.ValueIdx

@[expose] public section

namespace Cert.Stencil

open Idealize.ShloMosaic Idealize.ShloMosaic.ValueIdx Cert.ReferenceIdeal Cert.ReferenceIdeal.Gen Cert.ReferenceIdeal.Read

/-- A largest value taken along a list is at most `c` when its start and every entry are. -/
theorem foldl_max_le {ι : Type} (g : ι → EReal) (l : List ι) (v c : EReal) :
    l.foldl (fun r n => max r (g n)) v ≤ c ↔ v ≤ c ∧ ∀ n ∈ l, g n ≤ c := by
  induction l generalizing v with
  | nil => simp
  | cons a l ih => simp only [List.foldl_cons, ih, max_le_iff, List.mem_cons, forall_eq_or_imp, and_assoc]

/-- The window's own shape. -/
abbrev Win : Shape := ⟨5, ![1, 1, 3, 3, 3]⟩

variable (x : (⟨S2x1x4x512x512, .f32⟩ : BufTy).Contents (Elt Ideal)) (X : Fin 2 → Fin 4 → Fin 512 → Fin 512 → ℝ)
  (hx : ∀ b d h w, x (ix5 b 0 d h w : S2x1x4x512x512.Idx) = ((X b d h w : ℝ) : EReal))
  (b : Fin 2) (d : Fin 4) (h w : Fin 512)

/-- The value that entry `e` of the window at a voxel holds: the volume's where it lies in the volume, and -∞ outside. -/
noncomputable def entryAt (e : Win.Idx) : EReal :=
  let p : Fin 5 → Nat := fun a => ((ix5 b 0 d h w : S2x1x4x512x512.Idx) a).val * (![1, 1, 1, 1, 1] : Fin 5 → Nat) a + (e a).val
  if hin : ∀ a, (![0, 0, 1, 1, 1] : Fin 5 → Nat) a ≤ p a ∧ p a - (![0, 0, 1, 1, 1] : Fin 5 → Nat) a < S2x1x4x512x512.size a
  then x (fun a => ⟨p a - (![0, 0, 1, 1, 1] : Fin 5 → Nat) a, (hin a).2⟩) else Ideal.ofBits .f32 0xFF800000#32

/-- The largest value, taken along the window's entries. -/
theorem window_fold : val_main_v142 (F := Ideal) x (ix5 b 0 d h w : S2x1x4x512x512.Idx)
    = (List.finRange Win.numel).foldl (fun r n => max r (entryAt x b d h w (Win.rowMajor.symm n))) (Ideal.ofBits .f32 0xFF800000#32) := by
  have hv : val_main_v141 (F := Ideal) (Shape.Idx.first h_S_) = Ideal.ofBits .f32 0xFF800000#32 := by
    rw [val_main_v141_apply]; rfl
  unfold val_main_v142 Host.reduceWindow entryAt
  dsimp only
  rw [hv]
  exact congrArg (fun f => List.foldl f (Ideal.ofBits .f32 0xFF800000#32) (List.finRange Win.numel))
    (funext fun r => funext fun n => congrArg (max r) (dite_congr rfl (fun _ => rfl) (fun _ => rfl)))

/-- What the largest value is at most. -/
theorem window_le (c : EReal) :
    val_main_v142 (F := Ideal) x (ix5 b 0 d h w : S2x1x4x512x512.Idx) ≤ c ↔ ∀ e, entryAt x b d h w e ≤ c := by
  rw [window_fold, foldl_max_le, bits_neg_inf]
  constructor
  · intro k e
    have := k.2 (Win.rowMajor e) (List.mem_finRange _)
    rwa [Equiv.symm_apply_apply] at this
  · intro k
    exact ⟨bot_le, fun n _ => k _⟩

include hx

/-- An entry of the window is the entry of the neighbourhood at the same offsets. -/
theorem entryAt_eq (e : Win.Idx) (i j k : Fin 3) (h2 : d.val + (e 2).val = (cl d i).val + 1) (h3 : h.val + (e 3).val = (cl h j).val + 1)
    (h4 : w.val + (e 4).val = (cl w k).val + 1) : entryAt x b d h w e = ((nb X b d h w i j k : ℝ) : EReal) := by
  have b2 := (cl d i).isLt; have b3 := (cl h j).isLt; have b4 := (cl w k).isLt; have b0 := b.isLt
  have e0 : (e 0).val = 0 := Nat.lt_one_iff.1 (e 0).isLt
  have e1 : (e 1).val = 0 := Nat.lt_one_iff.1 (e 1).isLt
  unfold entryAt
  rw [dif_pos (fun a => by
    match a with
    | ⟨0, _⟩ => show 0 ≤ b.val * 1 + (e 0).val ∧ b.val * 1 + (e 0).val - 0 < 2; omega
    | ⟨1, _⟩ => show 0 ≤ 0 * 1 + (e 1).val ∧ 0 * 1 + (e 1).val - 0 < 1; omega
    | ⟨2, _⟩ => show 1 ≤ d.val * 1 + (e 2).val ∧ d.val * 1 + (e 2).val - 1 < 4; omega
    | ⟨3, _⟩ => show 1 ≤ h.val * 1 + (e 3).val ∧ h.val * 1 + (e 3).val - 1 < 512; omega
    | ⟨4, _⟩ => show 1 ≤ w.val * 1 + (e 4).val ∧ w.val * 1 + (e 4).val - 1 < 512; omega)]
  refine (congrArg x (funext fun a => Fin.ext ?_)).trans (hx b (cl d i) (cl h j) (cl w k))
  match a with
  | ⟨0, _⟩ => show b.val * 1 + (e 0).val - 0 = b.val; omega
  | ⟨1, _⟩ => show 0 * 1 + (e 1).val - 0 = 0; omega
  | ⟨2, _⟩ => show d.val * 1 + (e 2).val - 1 = (cl d i).val; omega
  | ⟨3, _⟩ => show h.val * 1 + (e 3).val - 1 = (cl h j).val; omega
  | ⟨4, _⟩ => show w.val * 1 + (e 4).val - 1 = (cl w k).val; omega

omit hx in
/-- The offset whose clamped position is that of `q`, and lies inside. -/
theorem inside {n : Nat} (a : Fin n) (q : Fin 3) : ∃ q' : Fin 3, a.val + q'.val = (cl a q).val + 1 := by
  have := a.isLt; have := q.isLt
  refine ⟨⟨min (a.val + q.val - 1) (n - 1) + 1 - a.val, by omega⟩, ?_⟩
  show a.val + (min (a.val + q.val - 1) (n - 1) + 1 - a.val) = min (a.val + q.val - 1) (n - 1) + 1
  omega

/-- A voxel has the largest value of its window just when it is a peak. -/
theorem window_iff :
    x (ix5 b 0 d h w : S2x1x4x512x512.Idx) = val_main_v142 (F := Ideal) x (ix5 b 0 d h w : S2x1x4x512x512.Idx) ↔ Peak (nb X b d h w) := by
  have hc : x (ix5 b 0 d h w : S2x1x4x512x512.Idx) = ((nb X b d h w 1 1 1 : ℝ) : EReal) := by
    rw [hx]; simp only [nb, cl_one]
  have hge : x (ix5 b 0 d h w : S2x1x4x512x512.Idx) ≤ val_main_v142 (F := Ideal) x (ix5 b 0 d h w : S2x1x4x512x512.Idx) := by
    have := (window_le x b d h w _).1 le_rfl (ix5 0 0 1 1 1)
    rwa [entryAt_eq x X hx b d h w _ 1 1 1 (by rw [cl_one]; rfl) (by rw [cl_one]; rfl) (by rw [cl_one]; rfl), ← hc] at this
  constructor
  · intro he i j k
    obtain ⟨i', hi⟩ := inside d i
    obtain ⟨j', hj⟩ := inside h j
    obtain ⟨k', hk⟩ := inside w k
    have := (window_le x b d h w _).1 he.ge (ix5 0 0 i' j' k')
    rw [entryAt_eq x X hx b d h w _ i j k hi hj hk, hc] at this
    exact EReal.coe_le_coe_iff.1 this
  · intro hp
    refine le_antisymm hge ((window_le x b d h w _).2 fun e => ?_)
    by_cases hin : ∃ i j k : Fin 3, d.val + (e 2).val = (cl d i).val + 1 ∧ h.val + (e 3).val = (cl h j).val + 1
        ∧ w.val + (e 4).val = (cl w k).val + 1
    · obtain ⟨i, j, k, h2, h3, h4⟩ := hin
      rw [entryAt_eq x X hx b d h w e i j k h2 h3 h4, hc]
      exact EReal.coe_le_coe_iff.2 (hp i j k)
    · unfold entryAt
      rw [dif_neg, bits_neg_inf]
      · exact bot_le
      · intro hr
        refine hin ⟨e 2, e 3, e 4, ?_, ?_, ?_⟩
        · have r : 1 ≤ d.val * 1 + (e 2).val ∧ d.val * 1 + (e 2).val - 1 < 4 := hr 2
          show _ = min (d.val + (e 2).val - 1) (4 - 1) + 1
          omega
        · have r : 1 ≤ h.val * 1 + (e 3).val ∧ h.val * 1 + (e 3).val - 1 < 512 := hr 3
          show _ = min (h.val + (e 3).val - 1) (512 - 1) + 1
          omega
        · have r : 1 ≤ w.val * 1 + (e 4).val ∧ w.val * 1 + (e 4).val - 1 < 512 := hr 4
          show _ = min (w.val + (e 4).val - 1) (512 - 1) + 1
          omega

end Cert.Stencil
-- ==== Proof.Stage.lean ====
/- The reference's stages at a voxel of a finite volume, up to the step and the response. -/
module

public import proofs.«01_k».proof.Proof.Taps
public import proofs.«01_k».proof.Proof.Window
public import proofs.«01_k».proof.Proof.Cell

@[expose] public section

namespace Cert.Stencil

open Idealize.ShloMosaic Idealize.ShloMosaic.ValueIdx Cert.ReferenceIdeal Cert.ReferenceIdeal.Gen Cert.ReferenceIdeal.Read

/-- The voxel's index in the reference's arrays. -/
abbrev at5' (b : Fin 2) (d : Fin 4) (h w : Fin 512) : S2x1x4x512x512.Idx := ix5 b 0 d h w

variable (x : (⟨S2x1x4x512x512, .f32⟩ : BufTy).Contents (Elt Ideal)) (X : Fin 2 → Fin 4 → Fin 512 → Fin 512 → ℝ)
  (hx : ∀ b d h w, x (ix5 b 0 d h w : S2x1x4x512x512.Idx) = ((X b d h w : ℝ) : EReal))
  (b : Fin 2) (d : Fin 4) (h w : Fin 512)
include hx

/-! ### The gradient -/

/-- The reference's gradient along columns. -/
theorem rb0 : val_main_v13 (F := Ideal) x (at5' b d h w) = ((b0 (nb X b d h w) : ℝ) : EReal) := by
  show Ideal.ofBits .f32 0x3F000000#32 * (val_main_v9 (F := Ideal) x (at5' b d h w) - val_main_v10 (F := Ideal) x (at5' b d h w)) = _
  rw [show val_main_v9 (F := Ideal) x (at5' b d h w) = _ from tap x X hx 1 1 2 _ rfl _ b d h w,
    show val_main_v10 (F := Ideal) x (at5' b d h w) = _ from tap x X hx 1 1 0 _ rfl _ b d h w, bits_half]
  simp only [← EReal.coe_sub, ← EReal.coe_mul]; congr 1; unfold b0; ring
/-- The reference's gradient along rows. -/
theorem rb1 : val_main_v18 (F := Ideal) x (at5' b d h w) = ((b1 (nb X b d h w) : ℝ) : EReal) := by
  show Ideal.ofBits .f32 0x3F000000#32 * (val_main_v14 (F := Ideal) x (at5' b d h w) - val_main_v15 (F := Ideal) x (at5' b d h w)) = _
  rw [show val_main_v14 (F := Ideal) x (at5' b d h w) = _ from tap x X hx 1 2 1 _ rfl _ b d h w,
    show val_main_v15 (F := Ideal) x (at5' b d h w) = _ from tap x X hx 1 0 1 _ rfl _ b d h w, bits_half]
  simp only [← EReal.coe_sub, ← EReal.coe_mul]; congr 1; unfold b1; ring
/-- The reference's gradient along depths. -/
theorem rb2 : val_main_v23 (F := Ideal) x (at5' b d h w) = ((b2 (nb X b d h w) : ℝ) : EReal) := by
  show Ideal.ofBits .f32 0x3F000000#32 * (val_main_v19 (F := Ideal) x (at5' b d h w) - val_main_v20 (F := Ideal) x (at5' b d h w)) = _
  rw [show val_main_v19 (F := Ideal) x (at5' b d h w) = _ from tap x X hx 2 1 1 _ rfl _ b d h w,
    show val_main_v20 (F := Ideal) x (at5' b d h w) = _ from tap x X hx 0 1 1 _ rfl _ b d h w, bits_half]
  simp only [← EReal.coe_sub, ← EReal.coe_mul]; congr 1; unfold b2; ring

/-! ### The Hessian -/

/-- The reference's second derivative along columns. -/
theorem rh00 : val_main_v39 (F := Ideal) x (at5' b d h w) = ((h00 (nb X b d h w) : ℝ) : EReal) := by
  show (val_main_v33 (F := Ideal) x (at5' b d h w) - Ideal.ofBits .f32 0x40000000#32 * val_main_v34 (F := Ideal) x (at5' b d h w))
    + val_main_v38 (F := Ideal) x (at5' b d h w) = _
  rw [show val_main_v33 (F := Ideal) x (at5' b d h w) = _ from tap x X hx 1 1 0 _ rfl _ b d h w,
    show val_main_v34 (F := Ideal) x (at5' b d h w) = _ from tap x X hx 1 1 1 _ rfl _ b d h w,
    show val_main_v38 (F := Ideal) x (at5' b d h w) = _ from tap x X hx 1 1 2 _ rfl _ b d h w, bits_two]
  simp only [← EReal.coe_sub, ← EReal.coe_mul, ← EReal.coe_add]; rfl
/-- The reference's second derivative along rows. -/
theorem rh11 : val_main_v46 (F := Ideal) x (at5' b d h w) = ((h11 (nb X b d h w) : ℝ) : EReal) := by
  show (val_main_v40 (F := Ideal) x (at5' b d h w) - Ideal.ofBits .f32 0x40000000#32 * val_main_v41 (F := Ideal) x (at5' b d h w))
    + val_main_v45 (F := Ideal) x (at5' b d h w) = _
  rw [show val_main_v40 (F := Ideal) x (at5' b d h w) = _ from tap x X hx 1 0 1 _ rfl _ b d h w,
    show val_main_v41 (F := Ideal) x (at5' b d h w) = _ from tap x X hx 1 1 1 _ rfl _ b d h w,
    show val_main_v45 (F := Ideal) x (at5' b d h w) = _ from tap x X hx 1 2 1 _ rfl _ b d h w, bits_two]
  simp only [← EReal.coe_sub, ← EReal.coe_mul, ← EReal.coe_add]; rfl
/-- The reference's second derivative along depths. -/
theorem rh22 : val_main_v53 (F := Ideal) x (at5' b d h w) = ((h22 (nb X b d h w) : ℝ) : EReal) := by
  show (val_main_v47 (F := Ideal) x (at5' b d h w) - Ideal.ofBits .f32 0x40000000#32 * val_main_v48 (F := Ideal) x (at5' b d h w))
    + val_main_v52 (F := Ideal) x (at5' b d h w) = _
  rw [show val_main_v47 (F := Ideal) x (at5' b d h w) = _ from tap x X hx 0 1 1 _ rfl _ b d h w,
    show val_main_v48 (F := Ideal) x (at5' b d h w) = _ from tap x X hx 1 1 1 _ rfl _ b d h w,
    show val_main_v52 (F := Ideal) x (at5' b d h w) = _ from tap x X hx 2 1 1 _ rfl _ b d h w, bits_two]
  simp only [← EReal.coe_sub, ← EReal.coe_mul, ← EReal.coe_add]; rfl
/-- The reference's second derivative across columns and rows. -/
theorem rh01 : val_main_v78 (F := Ideal) x (at5' b d h w) = ((h01 (nb X b d h w) : ℝ) : EReal) := by
  show Ideal.ofBits .f32 0x3E800000#32 * (((val_main_v54 (F := Ideal) x (at5' b d h w) - val_main_v55 (F := Ideal) x (at5' b d h w))
    - val_main_v57 (F := Ideal) x (at5' b d h w)) + val_main_v59 (F := Ideal) x (at5' b d h w)) = _
  rw [show val_main_v54 (F := Ideal) x (at5' b d h w) = _ from tap x X hx 1 0 0 _ rfl _ b d h w,
    show val_main_v55 (F := Ideal) x (at5' b d h w) = _ from tap x X hx 1 0 2 _ rfl _ b d h w,
    show val_main_v57 (F := Ideal) x (at5' b d h w) = _ from tap x X hx 1 2 0 _ rfl _ b d h w,
    show val_main_v59 (F := Ideal) x (at5' b d h w) = _ from tap x X hx 1 2 2 _ rfl _ b d h w, bits_quarter]
  simp only [← EReal.coe_sub, ← EReal.coe_mul, ← EReal.coe_add]; congr 1; unfold h01; ring
/-- The reference's second derivative across rows and depths. -/
theorem rh12 : val_main_v80 (F := Ideal) x (at5' b d h w) = ((h12 (nb X b d h w) : ℝ) : EReal) := by
  show Ideal.ofBits .f32 0x3E800000#32 * (((-val_main_v61 (F := Ideal) x (at5' b d h w) + val_main_v63 (F := Ideal) x (at5' b d h w))
    + val_main_v65 (F := Ideal) x (at5' b d h w)) - val_main_v67 (F := Ideal) x (at5' b d h w)) = _
  rw [show val_main_v61 (F := Ideal) x (at5' b d h w) = _ from tap x X hx 0 0 1 _ rfl _ b d h w,
    show val_main_v63 (F := Ideal) x (at5' b d h w) = _ from tap x X hx 0 2 1 _ rfl _ b d h w,
    show val_main_v65 (F := Ideal) x (at5' b d h w) = _ from tap x X hx 2 0 1 _ rfl _ b d h w,
    show val_main_v67 (F := Ideal) x (at5' b d h w) = _ from tap x X hx 2 2 1 _ rfl _ b d h w, bits_quarter]
  simp only [← EReal.coe_sub, ← EReal.coe_mul, ← EReal.coe_add, ← EReal.coe_neg]; congr 1; unfold h12; ring
/-- The reference's second derivative across columns and depths. -/
theorem rh02 : val_main_v82 (F := Ideal) x (at5' b d h w) = ((h02 (nb X b d h w) : ℝ) : EReal) := by
  show Ideal.ofBits .f32 0x3E800000#32 * (((-val_main_v69 (F := Ideal) x (at5' b d h w) + val_main_v71 (F := Ideal) x (at5' b d h w))
    + val_main_v73 (F := Ideal) x (at5' b d h w)) - val_main_v75 (F := Ideal) x (at5' b d h w)) = _
  rw [show val_main_v69 (F := Ideal) x (at5' b d h w) = _ from tap x X hx 0 1 0 _ rfl _ b d h w,
    show val_main_v71 (F := Ideal) x (at5' b d h w) = _ from tap x X hx 0 1 2 _ rfl _ b d h w,
    show val_main_v73 (F := Ideal) x (at5' b d h w) = _ from tap x X hx 2 1 0 _ rfl _ b d h w,
    show val_main_v75 (F := Ideal) x (at5' b d h w) = _ from tap x X hx 2 1 2 _ rfl _ b d h w, bits_quarter]
  simp only [← EReal.coe_sub, ← EReal.coe_mul, ← EReal.coe_add, ← EReal.coe_neg]; congr 1; unfold h02; ring

/-! ### The determinant, and the adjugate applied to the gradient -/

/-- The reference's determinant. -/
theorem rdet : val_main_v96 (F := Ideal) x (at5' b d h w) = ((det (nb X b d h w) : ℝ) : EReal) := by
  have e00 := rh00 x X hx b d h w; have e11 := rh11 x X hx b d h w; have e22 := rh22 x X hx b d h w
  have e01 := rh01 x X hx b d h w; have e12 := rh12 x X hx b d h w; have e02 := rh02 x X hx b d h w
  simp only [val_main_v96_apply, val_main_v95_apply, val_main_v94_apply, val_main_v93_apply, val_main_v92_apply, val_main_v91_apply,
    val_main_v90_apply, val_main_v89_apply, val_main_v88_apply, val_main_v87_apply, val_main_v86_apply, val_main_v85_apply,
    val_main_v84_apply, val_main_v83_apply, e00, e11, e22, e01, e12, e02, Ideal.addf_def, Ideal.subf_def, Ideal.mulf_def,
    ← EReal.coe_sub, ← EReal.coe_mul, ← EReal.coe_add]
  congr 1; unfold det a00 a01 a02; ring

/-- The reference's adjugate entry along columns. -/
theorem ra00 : val_main_v107 (F := Ideal) x (at5' b d h w) = ((a00 (nb X b d h w) : ℝ) : EReal) := by
  show val_main_v46 (F := Ideal) x _ * val_main_v53 (F := Ideal) x _ - val_main_v80 (F := Ideal) x _ * val_main_v80 (F := Ideal) x _ = _
  rw [rh11 x X hx, rh22 x X hx, rh12 x X hx]
  simp only [← EReal.coe_sub, ← EReal.coe_mul]; rfl
/-- The reference's adjugate entry across columns and rows. -/
theorem ra01 : val_main_v110 (F := Ideal) x (at5' b d h w) = ((a01 (nb X b d h w) : ℝ) : EReal) := by
  show val_main_v82 (F := Ideal) x _ * val_main_v80 (F := Ideal) x _ - val_main_v78 (F := Ideal) x _ * val_main_v53 (F := Ideal) x _ = _
  rw [rh02 x X hx, rh12 x X hx, rh01 x X hx, rh22 x X hx]
  simp only [← EReal.coe_sub, ← EReal.coe_mul]; rfl
/-- The reference's adjugate entry across columns and depths. -/
theorem ra02 : val_main_v113 (F := Ideal) x (at5' b d h w) = ((a02 (nb X b d h w) : ℝ) : EReal) := by
  show val_main_v78 (F := Ideal) x _ * val_main_v80 (F := Ideal) x _ - val_main_v82 (F := Ideal) x _ * val_main_v46 (F := Ideal) x _ = _
  rw [rh01 x X hx, rh12 x X hx, rh02 x X hx, rh11 x X hx]
  simp only [← EReal.coe_sub, ← EReal.coe_mul]; rfl
/-- The reference's adjugate entry along rows. -/
theorem ra11 : val_main_v116 (F := Ideal) x (at5' b d h w) = ((a11 (nb X b d h w) : ℝ) : EReal) := by
  show val_main_v39 (F := Ideal) x _ * val_main_v53 (F := Ideal) x _ - val_main_v82 (F := Ideal) x _ * val_main_v82 (F := Ideal) x _ = _
  rw [rh00 x X hx, rh22 x X hx, rh02 x X hx]
  simp only [← EReal.coe_sub, ← EReal.coe_mul]; rfl
/-- The reference's adjugate entry across rows and depths. -/
theorem ra12 : val_main_v119 (F := Ideal) x (at5' b d h w) = ((a12 (nb X b d h w) : ℝ) : EReal) := by
  show val_main_v78 (F := Ideal) x _ * val_main_v82 (F := Ideal) x _ - val_main_v39 (F := Ideal) x _ * val_main_v80 (F := Ideal) x _ = _
  rw [rh01 x X hx, rh02 x X hx, rh00 x X hx, rh12 x X hx]
  simp only [← EReal.coe_sub, ← EReal.coe_mul]; rfl
/-- The reference's adjugate entry along depths. -/
theorem ra22 : val_main_v122 (F := Ideal) x (at5' b d h w) = ((a22 (nb X b d h w) : ℝ) : EReal) := by
  show val_main_v39 (F := Ideal) x _ * val_main_v46 (F := Ideal) x _ - val_main_v78 (F := Ideal) x _ * val_main_v78 (F := Ideal) x _ = _
  rw [rh00 x X hx, rh11 x X hx, rh01 x X hx]
  simp only [← EReal.coe_sub, ← EReal.coe_mul]; rfl

/-- The reference's adjugate applied to its gradient, along columns. -/
theorem rn0 : val_main_v127 (F := Ideal) x (at5' b d h w) = ((n0 (nb X b d h w) : ℝ) : EReal) := by
  show val_main_v107 (F := Ideal) x _ * val_main_v13 (F := Ideal) x _ + val_main_v110 (F := Ideal) x _ * val_main_v18 (F := Ideal) x _
    + val_main_v113 (F := Ideal) x _ * val_main_v23 (F := Ideal) x _ = _
  rw [ra00 x X hx, ra01 x X hx, ra02 x X hx, rb0 x X hx, rb1 x X hx, rb2 x X hx]
  simp only [← EReal.coe_add, ← EReal.coe_mul]; rfl
/-- The reference's adjugate applied to its gradient, along rows. -/
theorem rn1 : val_main_v133 (F := Ideal) x (at5' b d h w) = ((n1 (nb X b d h w) : ℝ) : EReal) := by
  show val_main_v110 (F := Ideal) x _ * val_main_v13 (F := Ideal) x _ + val_main_v116 (F := Ideal) x _ * val_main_v18 (F := Ideal) x _
    + val_main_v119 (F := Ideal) x _ * val_main_v23 (F := Ideal) x _ = _
  rw [ra01 x X hx, ra11 x X hx, ra12 x X hx, rb0 x X hx, rb1 x X hx, rb2 x X hx]
  simp only [← EReal.coe_add, ← EReal.coe_mul]; rfl
/-- The reference's adjugate applied to its gradient, along depths. -/
theorem rn2 : val_main_v139 (F := Ideal) x (at5' b d h w) = ((n2 (nb X b d h w) : ℝ) : EReal) := by
  show val_main_v113 (F := Ideal) x _ * val_main_v13 (F := Ideal) x _ + val_main_v119 (F := Ideal) x _ * val_main_v18 (F := Ideal) x _
    + val_main_v122 (F := Ideal) x _ * val_main_v23 (F := Ideal) x _ = _
  rw [ra02 x X hx, ra12 x X hx, ra22 x X hx, rb0 x X hx, rb1 x X hx, rb2 x X hx]
  simp only [← EReal.coe_add, ← EReal.coe_mul]; rfl

/-! ### Which voxels are good, and the step there -/

open Classical in
/-- The reference calls a voxel's Hessian valid just where its determinant is not zero. -/
theorem rvalid : val_main_v103 (F := Ideal) x (at5' b d h w) = BitVec.ofBool (decide (det (nb X b d h w) ≠ 0)) := by
  show IntOp.andi
    (Ideal.cmp .olt (max (val_main_v96 (F := Ideal) x (at5' b d h w)) (-val_main_v96 (F := Ideal) x (at5' b d h w))) (Ideal.ofBits .f32 0x7F800000#32))
    (Ideal.cmp .ogt (max (val_main_v96 (F := Ideal) x (at5' b d h w)) (-val_main_v96 (F := Ideal) x (at5' b d h w))) (Ideal.ofBits .f32 0x00000000#32)) = _
  rw [rdet x X hx, coe_abs, bits_inf, bits_zero]
  simp only [Ideal.cmp, andi_ofBool]
  congr 1
  refine decide_eq_decide.2 ⟨fun g => ?_, fun g => ⟨EReal.coe_lt_top _, EReal.coe_lt_coe_iff.2 (abs_pos.2 g)⟩⟩
  exact abs_pos.1 (EReal.coe_lt_coe_iff.1 g.2)

open Classical in
/-- The reference's mask is the good voxels. -/
theorem rgood : val_main_v144 (F := Ideal) x (at5' b d h w) = BitVec.ofBool (decide (Good (nb X b d h w))) := by
  rw [val_main_v144_apply, rvalid x X hx]
  show IntOp.andi (Ideal.cmp .oeq (x _) (val_main_v142 (F := Ideal) x _)) _ = _
  simp only [Ideal.cmp, andi_ofBool]
  congr 1
  exact decide_eq_decide.2 (and_congr (window_iff x X hx b d h w) Iff.rfl)

open Classical in
/-- What the reference divides by: the determinant, or one where it is zero. -/
theorem rdiv : val_main_v104 (F := Ideal) x (at5' b d h w)
    = ((if det (nb X b d h w) ≠ 0 then det (nb X b d h w) else 1 : ℝ) : EReal) := by
  rw [val_main_v104_apply, rvalid x X hx, select_ofBool, rdet x X hx]
  show (if _ then _ else Ideal.ofBits .f32 0x3F800000#32) = _
  rw [bits_one]; split <;> rfl

open Classical in
/-- A component of the reference's masked step, from the component of the adjugate's product. -/
theorem rstep {q s : EReal} {n : ℝ} (hq : q = ((n : ℝ) : EReal)) (hs : s = Ideal.ofBits .f32 0x00000000#32) :
    -Scalar.select (val_main_v144 (F := Ideal) x (at5' b d h w)) (Ideal.div q (val_main_v104 (F := Ideal) x (at5' b d h w))) s
      = ((if Good (nb X b d h w) then -(n / det (nb X b d h w)) else 0 : ℝ) : EReal) := by
  rw [rgood x X hx, select_ofBool, rdiv x X hx, hq, hs, bits_zero]
  by_cases g : Good (nb X b d h w)
  · rw [if_pos g, if_pos g, if_pos g.2, Ideal.div_coe g.2, ← EReal.coe_mul, ← EReal.coe_neg]
    congr 1; ring
  · rw [if_neg g, if_neg g, ← EReal.coe_neg, neg_zero]

open Classical in
/-- The reference's masked step along columns, before long steps are dropped. -/
theorem rs0 : val_main_v146 (F := Ideal) x (at5' b d h w)
    = ((if Good (nb X b d h w) then -(n0 (nb X b d h w) / det (nb X b d h w)) else 0 : ℝ) : EReal) :=
  rstep x X hx b d h w (rn0 x X hx b d h w) rfl
open Classical in
/-- The reference's masked step along rows, before long steps are dropped. -/
theorem rs1 : val_main_v148 (F := Ideal) x (at5' b d h w)
    = ((if Good (nb X b d h w) then -(n1 (nb X b d h w) / det (nb X b d h w)) else 0 : ℝ) : EReal) :=
  rstep x X hx b d h w (rn1 x X hx b d h w) rfl
open Classical in
/-- The reference's masked step along depths, before long steps are dropped. -/
theorem rs2 : val_main_v150 (F := Ideal) x (at5' b d h w)
    = ((if Good (nb X b d h w) then -(n2 (nb X b d h w) / det (nb X b d h w)) else 0 : ℝ) : EReal) :=
  rstep x X hx b d h w (rn2 x X hx b d h w) rfl

open Classical in
/-- The reference drops a step that is too long: at a good voxel the mask is the negation of `Short`. -/
theorem rlong : val_main_v157 (F := Ideal) x (at5' b d h w)
    = BitVec.ofBool (decide (Good (nb X b d h w) ∧ ¬ Short (nb X b d h w))) := by
  show Ideal.cmp .ogt (max (max (max (val_main_v146 (F := Ideal) x (at5' b d h w)) (-val_main_v146 (F := Ideal) x (at5' b d h w)))
      (max (val_main_v148 (F := Ideal) x (at5' b d h w)) (-val_main_v148 (F := Ideal) x (at5' b d h w))))
      (max (val_main_v150 (F := Ideal) x (at5' b d h w)) (-val_main_v150 (F := Ideal) x (at5' b d h w)))) (Ideal.ofBits .f32 0x3F333333#32) = _
  rw [rs0 x X hx, rs1 x X hx, rs2 x X hx, bits_lim]
  simp only [coe_abs, ← coe_max, Ideal.cmp]
  congr 1
  refine decide_eq_decide.2 ?_
  by_cases g : Good (nb X b d h w)
  · simp only [if_pos g, abs_neg, gt_iff_lt, EReal.coe_lt_coe_iff]
    exact ⟨fun e => ⟨g, not_le.2 e⟩, fun e => not_le.1 e.2⟩
  · simp only [if_neg g, abs_zero, max_self, gt_iff_lt, EReal.coe_lt_coe_iff, g, false_and, iff_false, not_lt]
    unfold lim; norm_num

open Classical in
/-- The step the reference takes along an axis is the one of `Spec`. -/
theorem rkept {q s : EReal} {n : ℝ} (hq : q = ((if Good (nb X b d h w) then -(n / det (nb X b d h w)) else 0 : ℝ) : EReal))
    (hs : s = Ideal.ofBits .f32 0x00000000#32) :
    Scalar.select (val_main_v157 (F := Ideal) x (at5' b d h w)) s q
      = ((n / det (nb X b d h w) * sgn (nb X b d h w) : ℝ) : EReal) := by
  rw [rlong x X hx, select_ofBool, hq, hs, bits_zero, sgn]
  by_cases g : Good (nb X b d h w)
  · by_cases k : Short (nb X b d h w)
    · rw [if_neg (fun e => e.2 k), if_pos g, if_pos ⟨g, k⟩, mul_neg_one]
    · rw [if_pos ⟨g, k⟩, if_neg (fun e => k e.2), mul_zero]
  · rw [if_neg (fun e => g e.1), if_neg g, if_neg (fun e => g e.1), mul_zero]

/-- The reference's step along columns. -/
theorem rdx0 : val_main_v158 (F := Ideal) x (at5' b d h w) = ((dx0 (nb X b d h w) : ℝ) : EReal) :=
  rkept x X hx b d h w (rs0 x X hx b d h w) rfl
/-- The reference's step along rows. -/
theorem rdx1 : val_main_v159 (F := Ideal) x (at5' b d h w) = ((dx1 (nb X b d h w) : ℝ) : EReal) :=
  rkept x X hx b d h w (rs1 x X hx b d h w) rfl
/-- The reference's step along depths. -/
theorem rdx2 : val_main_v160 (F := Ideal) x (at5' b d h w) = ((dx2 (nb X b d h w) : ℝ) : EReal) :=
  rkept x X hx b d h w (rs2 x X hx b d h w) rfl

/-- The reference's response at a voxel. -/
theorem ry : val_main_v172 (F := Ideal) x (at5' b d h w) = ((y (nb X b d h w) : ℝ) : EReal) := by
  classical
  show (x (at5' b d h w) + Ideal.ofBits .f32 0x3F000000#32 * (val_main_v13 (F := Ideal) x (at5' b d h w) * val_main_v158 (F := Ideal) x (at5' b d h w)
      + val_main_v18 (F := Ideal) x (at5' b d h w) * val_main_v159 (F := Ideal) x (at5' b d h w)
      + val_main_v23 (F := Ideal) x (at5' b d h w) * val_main_v160 (F := Ideal) x (at5' b d h w)))
    + Ideal.ofBits .f32 0x41200000#32 * (((val_main_v144 (F := Ideal) x (at5' b d h w)).toNat : ℝ) : EReal) = _
  have hc : x (at5' b d h w) = ((nb X b d h w 1 1 1 : ℝ) : EReal) := by
    rw [nb, cl_one, cl_one, cl_one]; exact hx b d h w
  rw [hc, rb0 x X hx, rb1 x X hx, rb2 x X hx, rdx0 x X hx, rdx1 x X hx, rdx2 x X hx, rgood x X hx, bits_half, bits_ten]
  simp only [← EReal.coe_add, ← EReal.coe_mul]
  congr 1
  unfold y
  by_cases g : Good (nb X b d h w)
  · simp only [if_pos g, decide_eq_true g, BitVec.toNat_ofBool, Bool.toNat_true, Nat.cast_one]; ring
  · simp only [if_neg g, decide_eq_false g, BitVec.toNat_ofBool, Bool.toNat_false, Nat.cast_zero]; ring

end Cert.Stencil
-- ==== Proof.RefOut.lean ====
/- What the reference returns for a finite volume. -/
module

public import proofs.«01_k».proof.Proof.Stage
public import proofs.«01_k».proof.Proof.Coord
public import Idealize.ShloMosaic.Lib.ValueIdxRank6

@[expose] public section

namespace Cert.Stencil

open Idealize.ShloMosaic Idealize.ShloMosaic.ValueIdx Cert.ReferenceIdeal Cert.ReferenceIdeal.Gen Cert.ReferenceIdeal.Read

/-- Three arrays of one position along axis `a`, joined along it: position `k` there is in the `k`th. -/
theorem stack_at {α : Type} {n : Nat} {P T : Fin n → Nat} (a : Fin n) (A : Fin 3 → (⟨n, P⟩ : Shape).Idx → α)
    (hc : Shape.Concatenates [⟨n, P⟩, ⟨n, P⟩, ⟨n, P⟩] ⟨n, T⟩ a) (hP : P a = 1) (j : (⟨n, T⟩ : Shape).Idx)
    (e : (⟨n, P⟩ : Shape).Idx) (he : ∀ b, b ≠ a → (e b).val = (j b).val) (k : Fin 3) (hk : (j a).val = k.val) :
    concatenate ⟨n, T⟩ a [⟨⟨n, P⟩, A 0⟩, ⟨⟨n, P⟩, A 1⟩, ⟨⟨n, P⟩, A 2⟩] hc j = A k e := by
  have hea : (e a).val = 0 := by have h := (e a).isLt; change _ < P a at h; omega
  let xs : List ((s : Shape) × (s.Idx → α)) := [⟨⟨n, P⟩, A 0⟩, ⟨⟨n, P⟩, A 1⟩, ⟨⟨n, P⟩, A 2⟩]
  refine concatenate_apply_piece (t := ⟨n, T⟩) a xs hc j k.val k.isLt ⟨n, P⟩ (A k) ?_ rfl k.val ?_ e (fun b hb => he b hb) ?_
  · fin_cases k <;> rfl
  · fin_cases k <;> simp [xs, hP]
  · show k.val + (e a).val = _
    omega

/-! ### The grid of positions -/

/-- The positions along an axis, as floats. -/
theorem number_at {n : Nat} (s : (⟨1, ![n]⟩ : Shape).Idx) (h : n < 2147483648) :
    (sitofp .f32 (iotaInDim ⟨1, ![n]⟩ 32 0) : FVec Ideal ⟨1, ![n]⟩ .f32) s = (((s 0).val : ℝ) : EReal) :=
  sitofp_small (s 0).val (lt_trans (s 0).isLt h)

/-- The reference's grid: at a voxel its depth, column and row. -/
theorem grid_at (b : Fin 2) (k : Fin 3) (d : Fin 4) (h w : Fin 512) :
    val_main_v188 (F := Ideal) (ix6 b 0 k d h w) = (((![(d.val : ℝ), (w.val : ℝ), (h.val : ℝ)] : Fin 3 → ℝ) k : ℝ) : EReal) := by
  rw [val_main_v188_apply, val_main_v187_apply]
  refine (stack_at (P := ![1, 4, 512, 512]) (T := ![3, 4, 512, 512]) 0
    ![val_main_v183 (F := Ideal), val_main_v184 (F := Ideal), val_main_v185 (F := Ideal)] (by decide) rfl _
    (ix4 0 d h w) (fun c hc => ?_) k rfl).trans ?_
  · fin_cases c
    · exact absurd rfl hc
    all_goals rfl
  · fin_cases k
    · show val_main_v183 (F := Ideal) (ix4 0 d h w) = _
      rw [val_main_v183_apply, val_main_v180_apply]
      exact number_at (n := 4) _ (by norm_num)
    · show val_main_v184 (F := Ideal) (ix4 0 d h w) = _
      rw [val_main_v184_apply, val_main_v182_apply]
      exact number_at (n := 512) _ (by norm_num)
    · show val_main_v185 (F := Ideal) (ix4 0 d h w) = _
      rw [val_main_v185_apply, val_main_v181_apply]
      exact number_at (n := 512) _ (by norm_num)

variable (x : (⟨S2x1x4x512x512, .f32⟩ : BufTy).Contents (Elt Ideal)) (X : Fin 2 → Fin 4 → Fin 512 → Fin 512 → ℝ)
  (hx : ∀ b d h w, x (ix5 b 0 d h w : S2x1x4x512x512.Idx) = ((X b d h w : ℝ) : EReal))
  (b : Fin 2) (d : Fin 4) (h w : Fin 512)
include hx

/-- The reference's steps, stacked: along depths, columns and rows. -/
theorem steps_at (k : Fin 3) : val_main_v176 (F := Ideal) x (ix6 b 0 k d h w)
    = (((![dx2 (nb X b d h w), dx0 (nb X b d h w), dx1 (nb X b d h w)] : Fin 3 → ℝ) k : ℝ) : EReal) := by
  have e (i : S2x1x4x512x512.Idx) (hi : ∀ c, (i c).val = (at5' b d h w c).val) : i = at5' b d h w := funext fun c => Fin.ext (hi c)
  refine (stack_at (P := ![2, 1, 1, 4, 512, 512]) (T := ![2, 1, 3, 4, 512, 512]) 2
    ![val_main_v173 (F := Ideal) x, val_main_v174 (F := Ideal) x, val_main_v175 (F := Ideal) x] (by decide) rfl _
    (ix6 b 0 0 d h w) (fun c hc => ?_) k rfl).trans ?_
  · fin_cases c
    iterate 2 rfl
    · exact absurd rfl hc
    all_goals rfl
  · fin_cases k
    · show val_main_v173 (F := Ideal) x (ix6 b 0 0 d h w) = _
      rw [val_main_v173_apply]
      exact (congrArg (val_main_v160 (F := Ideal) x) (e (idx_main_v173 (ix6 b 0 0 d h w)) (fun c => by fin_cases c <;> rfl))).trans
        (rdx2 x X hx b d h w)
    · show val_main_v174 (F := Ideal) x (ix6 b 0 0 d h w) = _
      rw [val_main_v174_apply]
      exact (congrArg (val_main_v158 (F := Ideal) x) (e (idx_main_v174 (ix6 b 0 0 d h w)) (fun c => by fin_cases c <;> rfl))).trans
        (rdx0 x X hx b d h w)
    · show val_main_v175 (F := Ideal) x (ix6 b 0 0 d h w) = _
      rw [val_main_v175_apply]
      exact (congrArg (val_main_v159 (F := Ideal) x) (e (idx_main_v175 (ix6 b 0 0 d h w)) (fun c => by fin_cases c <;> rfl))).trans
        (rdx1 x X hx b d h w)

/-- The reference's coordinates at a voxel. -/
theorem ref_coords (k : Fin 3) :
    val_main_v190 (F := Ideal) x (ix5 b k d h w : S2x3x4x512x512.Idx) = ((coord (nb X b d h w) d h w k : ℝ) : EReal) := by
  unfold val_main_v190
  refine (shapeCast_apply (val_main_v189 (F := Ideal) x) _ (ix5 b k d h w) (ix6 b 0 k d h w) ?_).trans ?_
  · rw [Shape.rowMajor_val_six, Shape.rowMajor_val_five]
    show ((((b.val * 1 + 0) * 3 + k.val) * 4 + d.val) * 512 + h.val) * 512 + w.val = (((b.val * 3 + k.val) * 4 + d.val) * 512 + h.val) * 512 + w.val
    omega
  · rw [val_main_v189_apply, grid_at, steps_at x X hx, Ideal.addf_def, ← EReal.coe_add]
    fin_cases k <;> rfl

/-- The reference's response at a voxel. -/
theorem ref_y : val_main_v191 (F := Ideal) x (ix4 b d h w : S2x4x512x512.Idx) = ((y (nb X b d h w) : ℝ) : EReal) := by
  unfold val_main_v191
  refine (shapeCast_apply (val_main_v172 (F := Ideal) x) _ (ix4 b d h w) (at5' b d h w) ?_).trans (ry x X hx b d h w)
  rw [Shape.rowMajor_val_five, Shape.rowMajor_val_four]
  show (((b.val * 1 + 0) * 4 + d.val) * 512 + h.val) * 512 + w.val = ((b.val * 4 + d.val) * 512 + h.val) * 512 + w.val
  omega

end Cert.Stencil
-- ==== Proof.Algebraic.lean ====
/- The kernel and the reference return the same arrays for a finite volume. -/
module

public import proofs.«01_k».proof.Defs
public import proofs.«01_k».proof.Proof.Gen.KernelIdeal.Value
public import proofs.«01_k».proof.Proof.Gen.ReferenceIdeal.Run
public import proofs.«01_k».proof.Proof.Final
public import proofs.«01_k».proof.Proof.RefOut

@[expose] public section

namespace Cert.Stencil

open Idealize.ShloMosaic Idealize.ShloMosaic.ValueIdx Idealize.ShloMosaic.TcCoe Idealize.SL.Sem Idealize.ShloMosaic.StableHlo

/-- The shape fact the precondition takes. -/
instance preFacts : Cert.Pre_finite.Facts := ⟨by decide⟩

/-- The precondition read at a voxel: the value there is neither infinity, so it is a real number. -/
theorem real_of_pre (m : (ℓ : Loc Cert.KernelIdeal.nD Cert.KernelIdeal.τ Cert.KernelIdeal.sig) → Buf (Elt Ideal) ℓ)
    (hm : Cert.Pre_KernelIdeal_finite m) (c : Dev Cert.KernelIdeal.nD) (b : Fin 2) (d : Fin 4) (h w : Fin 512) :
    vol m c b d h w = (((vol m c b d h w).toReal : ℝ) : EReal) := by
  have e : Ideal.cmp .olt (max (vol m c b d h w) (-vol m c b d h w)) (Ideal.ofBits .f32 0x7F800000#32) = 1#1 :=
    congrFun (hm c) (ix5 b 0 d h w)
  rw [bits_inf] at e
  have l : max (vol m c b d h w) (-vol m c b d h w) < ⊤ := by
    by_contra g
    simp [Ideal.cmp, g] at e
  refine (EReal.coe_toReal (fun t => ?_) (fun t => ?_)).symm
  · rw [t] at l; simp at l
  · rw [t] at l; simp at l

/-- On finite volumes the kernel's coordinates and response are the reference's. -/
theorem algebraic : Cert.algebraic_KernelIdeal_ReferenceIdeal_pre_finite := by
  intro m g m' g' hm hin
  refine ⟨fun c => (Cert.KernelIdeal.Gen.dats m 0 c).arrAt 3 Cert.KernelIdeal.cfg0.N,
    fun c => (Cert.KernelIdeal.Gen.dats m 0 c).arrAt 4 Cert.KernelIdeal.cfg0.N, Cert.KernelIdeal.Value.run_blocks m g, ?_⟩
  refine (θ_run Cert.ReferenceIdeal.defs _ _).mono (fun r hr c => ?_) (Cert.ReferenceIdeal.Value.run (F := Ideal) m' g')
  have hX := real_of_pre m hm c
  have hx : ∀ b d h w, launchContents m' c (Proc.devRef .tc Cert.ReferenceIdeal.main_arg0) (ix5 b 0 d h w : Cert.ReferenceIdeal.S2x1x4x512x512.Idx)
      = (((vol m c b d h w).toReal : ℝ) : EReal) := fun b d h w => (congrFun (hin c) _).trans (hX b d h w)
  refine ⟨(hr c).1.trans ((Cert.ReferenceIdeal.Read.val_main_v190_eq (launchContents m' c)).trans (funext fun i => ?_)),
    (hr c).2.1.trans ((Cert.ReferenceIdeal.Read.val_main_v191_eq (launchContents m' c)).trans (funext fun i => ?_)), (hr c).2.2⟩
  · obtain ⟨b, k, d, h, w, rfl⟩ : ∃ b k d h w, i = ix5 b k d h w := ⟨_, _, _, _, _, eq_ix5 i⟩
    exact (ref_coords _ _ hx b d h w k).trans (kernel_coords m c _ hX b k d h w).symm
  · obtain ⟨b, d, h, w, rfl⟩ : ∃ b d h w, i = ix4 b d h w := ⟨_, _, _, _, eq_ix4 i⟩
    exact (ref_y _ _ hx b d h w).trans (kernel_y m c _ hX b d h w).symm

end Cert.Stencil
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic
public import Idealize.ShloMosaic.Adequacy
public import Idealize.ShloMosaic.Init

@[expose] public section

namespace Cert.Proof

open Idealize.ShloMosaic Idealize.SL.Sem

/-- The reference runs and leaves its argument as it was; it declares no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Everything the certificate claims: both kernels and the reference run and leave their argument as it was, the
    idealized kernel is the kernel's idealization, and it returns what the reference returns on finite volumes. -/
theorem claim : Cert.Claim := ⟨Cert.Kernel.Gen.facts, Cert.KernelIdeal.Gen.facts, Cert.ReferenceIdeal.Gen.facts, Cert.Stencil.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, Cert.Stencil.algebraic⟩

end Cert.Proof
